-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S8x512x256 : Shape := ⟨3, ![8, 512, 256]⟩
abbrev S8x128 : Shape := ⟨2, ![8, 128]⟩
abbrev S8x8x128 : Shape := ⟨3, ![8, 8, 128]⟩
abbrev S8 : Shape := ⟨1, ![8]⟩
abbrev S_ : Shape := ⟨0, ![]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S512x4096, .bf16⟩
  | .hbm, ⟨1, _⟩ => ⟨S4096x2048, .bf16⟩
  | .hbm, ⟨2, _⟩ => ⟨S4096x256, .f32⟩
  | .local _ .vmem, ⟨0, _⟩ => ⟨S512x4096, .bf16⟩
  | .local _ .vmem, ⟨1, _⟩ => ⟨S4096x2048, .bf16⟩
  | .local _ .vmem, ⟨2, _⟩ => ⟨S4096x256, .f32⟩
  | .local _ .vmem, ⟨3, _⟩ => ⟨S8x512x256, .f32⟩
  | .local _ .vmem, ⟨4, _⟩ => ⟨S8x512x256, .fp8e4m3⟩
  | .local _ .vmem, ⟨5, _⟩ => ⟨S8x512x256, .fp8e4m3⟩
  | .local _ .vmem, ⟨6, _⟩ => ⟨S8x128, .f32⟩
  | .local _ .vmem, ⟨7, _⟩ => ⟨S8x8x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_454 : BitVec 32 := 0#32
  let c0_i32_452 : BitVec 32 := 0#32
  let c1_i32_453 : BitVec 32 := 1#32
  let v547 : BitVec 32 := Scalar.muli c0_i32_452 c1_i32_453
  let v548 : BitVec 32 := Scalar.addi c0_i32_454 v547
  v548.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_454 : BitVec 32 := 0#32
  let c1_i32_452 : BitVec 32 := 1#32
  let c1_i32_453 : BitVec 32 := 1#32
  let v547 : BitVec 32 := Scalar.muli c1_i32_452 c1_i32_453
  let v548 : BitVec 32 := Scalar.addi c0_i32_454 v547
  v548.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_454 : BitVec 32 := 0#32
  let c2_i32_452 : BitVec 32 := 2#32
  let c1_i32_453 : BitVec 32 := 1#32
  let v547 : BitVec 32 := Scalar.muli c2_i32_452 c1_i32_453
  let v548 : BitVec 32 := Scalar.addi c0_i32_454 v547
  v548.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_454 : BitVec 32 := 0#32
  let c3_i32_452 : BitVec 32 := 3#32
  let c1_i32_453 : BitVec 32 := 1#32
  let v547 : BitVec 32 := Scalar.muli c3_i32_452 c1_i32_453
  let v548 : BitVec 32 := Scalar.addi c0_i32_454 v547
  v548.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_454 : BitVec 32 := 0#32
  let c4_i32_452 : BitVec 32 := 4#32
  let c1_i32_453 : BitVec 32 := 1#32
  let v547 : BitVec 32 := Scalar.muli c4_i32_452 c1_i32_453
  let v548 : BitVec 32 := Scalar.addi c0_i32_454 v547
  v548.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_454 : BitVec 32 := 0#32
  let c5_i32_452 : BitVec 32 := 5#32
  let c1_i32_453 : BitVec 32 := 1#32
  let v547 : BitVec 32 := Scalar.muli c5_i32_452 c1_i32_453
  let v548 : BitVec 32 := Scalar.addi c0_i32_454 v547
  v548.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_454 : BitVec 32 := 0#32
  let c6_i32_452 : BitVec 32 := 6#32
  let c1_i32_453 : BitVec 32 := 1#32
  let v547 : BitVec 32 := Scalar.muli c6_i32_452 c1_i32_453
  let v548 : BitVec 32 := Scalar.addi c0_i32_454 v547
  v548.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_454 : BitVec 32 := 0#32
  let c7_i32_452 : BitVec 32 := 7#32
  let c1_i32_453 : BitVec 32 := 1#32
  let v547 : BitVec 32 := Scalar.muli c7_i32_452 c1_i32_453
  let v548 : BitVec 32 := Scalar.addi c0_i32_454 v547
  v548.toNat
def k0_off1 (d0 : Dev nD) (c1_i32_9 : BitVec 32) : Fin 2 → Nat :=
  let c0_12 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.addi v2 c1_i32_9
  let c8_i32_10 : BitVec 32 := 8#32
  let v29 : BitVec 32 := Scalar.remsi v28 c8_i32_10
  let c256_i32 : BitVec 32 := 256#32
  let v32 : BitVec 32 := Scalar.muli v29 c256_i32
  let v33 : Index := Scalar.indexCast v32
  ![0, v33.toNat]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_90 : BitVec 32 := 0#32
  let v175 : BitVec 1 := Scalar.cmpi .ne v2 c0_i32_90
  let v176 : BitVec 32 := Scalar.extui v175
  let c0_i32_92 : BitVec 32 := 0#32
  let v177 : BitVec 1 := Scalar.cmpi .ne v176 c0_i32_92
  v177

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev9 : Nat :=
  let c0_i32_453 : BitVec 32 := 0#32
  let c0_i32_451 : BitVec 32 := 0#32
  let c1_i32_452 : BitVec 32 := 1#32
  let v547 : BitVec 32 := Scalar.muli c0_i32_451 c1_i32_452
  let v548 : BitVec 32 := Scalar.addi c0_i32_453 v547
  v548.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v178 : BitVec 1 := Scalar.cmpi .ne v2 c1_i32_93
  let v179 : BitVec 32 := Scalar.extui v178
  let c0_i32_95 : BitVec 32 := 0#32
  let v180 : BitVec 1 := Scalar.cmpi .ne v179 c0_i32_95
  v180

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev10 : Nat :=
  let c0_i32_453 : BitVec 32 := 0#32
  let c1_i32_451 : BitVec 32 := 1#32
  let c1_i32_452 : BitVec 32 := 1#32
  let v547 : BitVec 32 := Scalar.muli c1_i32_451 c1_i32_452
  let v548 : BitVec 32 := Scalar.addi c0_i32_453 v547
  v548.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v181 : BitVec 1 := Scalar.cmpi .ne v2 c2_i32_96
  let v182 : BitVec 32 := Scalar.extui v181
  let c0_i32_98 : BitVec 32 := 0#32
  let v183 : BitVec 1 := Scalar.cmpi .ne v182 c0_i32_98
  v183

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev11 : Nat :=
  let c0_i32_453 : BitVec 32 := 0#32
  let c2_i32_451 : BitVec 32 := 2#32
  let c1_i32_452 : BitVec 32 := 1#32
  let v547 : BitVec 32 := Scalar.muli c2_i32_451 c1_i32_452
  let v548 : BitVec 32 := Scalar.addi c0_i32_453 v547
  v548.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_99 : BitVec 32 := 3#32
  let v184 : BitVec 1 := Scalar.cmpi .ne v2 c3_i32_99
  let v185 : BitVec 32 := Scalar.extui v184
  let c0_i32_101 : BitVec 32 := 0#32
  let v186 : BitVec 1 := Scalar.cmpi .ne v185 c0_i32_101
  v186

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev12 : Nat :=
  let c0_i32_453 : BitVec 32 := 0#32
  let c3_i32_451 : BitVec 32 := 3#32
  let c1_i32_452 : BitVec 32 := 1#32
  let v547 : BitVec 32 := Scalar.muli c3_i32_451 c1_i32_452
  let v548 : BitVec 32 := Scalar.addi c0_i32_453 v547
  v548.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v187 : BitVec 1 := Scalar.cmpi .ne v2 c4_i32_102
  let v188 : BitVec 32 := Scalar.extui v187
  let c0_i32_104 : BitVec 32 := 0#32
  let v189 : BitVec 1 := Scalar.cmpi .ne v188 c0_i32_104
  v189

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev13 : Nat :=
  let c0_i32_453 : BitVec 32 := 0#32
  let c4_i32_451 : BitVec 32 := 4#32
  let c1_i32_452 : BitVec 32 := 1#32
  let v547 : BitVec 32 := Scalar.muli c4_i32_451 c1_i32_452
  let v548 : BitVec 32 := Scalar.addi c0_i32_453 v547
  v548.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_105 : BitVec 32 := 5#32
  let v190 : BitVec 1 := Scalar.cmpi .ne v2 c5_i32_105
  let v191 : BitVec 32 := Scalar.extui v190
  let c0_i32_107 : BitVec 32 := 0#32
  let v192 : BitVec 1 := Scalar.cmpi .ne v191 c0_i32_107
  v192

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev14 : Nat :=
  let c0_i32_453 : BitVec 32 := 0#32
  let c5_i32_451 : BitVec 32 := 5#32
  let c1_i32_452 : BitVec 32 := 1#32
  let v547 : BitVec 32 := Scalar.muli c5_i32_451 c1_i32_452
  let v548 : BitVec 32 := Scalar.addi c0_i32_453 v547
  v548.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v193 : BitVec 1 := Scalar.cmpi .ne v2 c6_i32_108
  let v194 : BitVec 32 := Scalar.extui v193
  let c0_i32_110 : BitVec 32 := 0#32
  let v195 : BitVec 1 := Scalar.cmpi .ne v194 c0_i32_110
  v195

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev15 : Nat :=
  let c0_i32_453 : BitVec 32 := 0#32
  let c6_i32_451 : BitVec 32 := 6#32
  let c1_i32_452 : BitVec 32 := 1#32
  let v547 : BitVec 32 := Scalar.muli c6_i32_451 c1_i32_452
  let v548 : BitVec 32 := Scalar.addi c0_i32_453 v547
  v548.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_111 : BitVec 32 := 7#32
  let v196 : BitVec 1 := Scalar.cmpi .ne v2 c7_i32_111
  let v197 : BitVec 32 := Scalar.extui v196
  let c0_i32_113 : BitVec 32 := 0#32
  let v198 : BitVec 1 := Scalar.cmpi .ne v197 c0_i32_113
  v198

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![v2.toNat, 0, 0]
def k0_dev16 : Nat :=
  let c0_i32_453 : BitVec 32 := 0#32
  let c7_i32_451 : BitVec 32 := 7#32
  let c1_i32_452 : BitVec 32 := 1#32
  let v547 : BitVec 32 := Scalar.muli c7_i32_451 c1_i32_452
  let v548 : BitVec 32 := Scalar.addi c0_i32_453 v547
  v548.toNat
def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_202 : BitVec 32 := 0#32
  let c0_i32_203 : BitVec 32 := 0#32
  ![v2.toNat, 0, 0]
def k0_dev17 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_188 : BitVec 32 := 1#32
  let v265 : BitVec 32 := Scalar.addi v2 c1_i32_188
  let c8_i32_189 : BitVec 32 := 8#32
  let v266 : BitVec 32 := Scalar.remsi v265 c8_i32_189
  let c1_i32_200 : BitVec 32 := 1#32
  let v279 : BitVec 32 := Scalar.muli v266 c1_i32_200
  let v280 : BitVec 32 := Scalar.addi c0_i32_201 v279
  v280.toNat
def k0_dev18 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_206 : BitVec 32 := 2#32
  let v289 : BitVec 32 := Scalar.addi v2 c2_i32_206
  let c8_i32_207 : BitVec 32 := 8#32
  let v290 : BitVec 32 := Scalar.remsi v289 c8_i32_207
  let c1_i32_218 : BitVec 32 := 1#32
  let v303 : BitVec 32 := Scalar.muli v290 c1_i32_218
  let v304 : BitVec 32 := Scalar.addi c0_i32_219 v303
  v304.toNat
def k0_dev19 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_224 : BitVec 32 := 3#32
  let v313 : BitVec 32 := Scalar.addi v2 c3_i32_224
  let c8_i32_225 : BitVec 32 := 8#32
  let v314 : BitVec 32 := Scalar.remsi v313 c8_i32_225
  let c1_i32_236 : BitVec 32 := 1#32
  let v327 : BitVec 32 := Scalar.muli v314 c1_i32_236
  let v328 : BitVec 32 := Scalar.addi c0_i32_237 v327
  v328.toNat
def k0_dev20 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_242 : BitVec 32 := 4#32
  let v337 : BitVec 32 := Scalar.addi v2 c4_i32_242
  let c8_i32_243 : BitVec 32 := 8#32
  let v338 : BitVec 32 := Scalar.remsi v337 c8_i32_243
  let c1_i32_254 : BitVec 32 := 1#32
  let v351 : BitVec 32 := Scalar.muli v338 c1_i32_254
  let v352 : BitVec 32 := Scalar.addi c0_i32_255 v351
  v352.toNat
def k0_dev21 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_260 : BitVec 32 := 5#32
  let v361 : BitVec 32 := Scalar.addi v2 c5_i32_260
  let c8_i32_261 : BitVec 32 := 8#32
  let v362 : BitVec 32 := Scalar.remsi v361 c8_i32_261
  let c1_i32_272 : BitVec 32 := 1#32
  let v375 : BitVec 32 := Scalar.muli v362 c1_i32_272
  let v376 : BitVec 32 := Scalar.addi c0_i32_273 v375
  v376.toNat
def k0_dev22 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_278 : BitVec 32 := 6#32
  let v385 : BitVec 32 := Scalar.addi v2 c6_i32_278
  let c8_i32_279 : BitVec 32 := 8#32
  let v386 : BitVec 32 := Scalar.remsi v385 c8_i32_279
  let c1_i32_290 : BitVec 32 := 1#32
  let v399 : BitVec 32 := Scalar.muli v386 c1_i32_290
  let v400 : BitVec 32 := Scalar.addi c0_i32_291 v399
  v400.toNat
def k0_dev23 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v409 : BitVec 32 := Scalar.addi v2 c7_i32_296
  let c8_i32_297 : BitVec 32 := 8#32
  let v410 : BitVec 32 := Scalar.remsi v409 c8_i32_297
  let c1_i32_308 : BitVec 32 := 1#32
  let v423 : BitVec 32 := Scalar.muli v410 c1_i32_308
  let v424 : BitVec 32 := Scalar.addi c0_i32_309 v423
  v424.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_427 : BitVec 32 := 0#32
  let v523 : BitVec 1 := Scalar.cmpi .ne v2 c0_i32_427
  let v524 : BitVec 32 := Scalar.extui v523
  let c0_i32_429 : BitVec 32 := 0#32
  let v525 : BitVec 1 := Scalar.cmpi .ne v524 c0_i32_429
  v525

def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_430 : BitVec 32 := 1#32
  let v526 : BitVec 1 := Scalar.cmpi .ne v2 c1_i32_430
  let v527 : BitVec 32 := Scalar.extui v526
  let c0_i32_432 : BitVec 32 := 0#32
  let v528 : BitVec 1 := Scalar.cmpi .ne v527 c0_i32_432
  v528

def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_433 : BitVec 32 := 2#32
  let v529 : BitVec 1 := Scalar.cmpi .ne v2 c2_i32_433
  let v530 : BitVec 32 := Scalar.extui v529
  let c0_i32_435 : BitVec 32 := 0#32
  let v531 : BitVec 1 := Scalar.cmpi .ne v530 c0_i32_435
  v531

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_436 : BitVec 32 := 3#32
  let v532 : BitVec 1 := Scalar.cmpi .ne v2 c3_i32_436
  let v533 : BitVec 32 := Scalar.extui v532
  let c0_i32_438 : BitVec 32 := 0#32
  let v534 : BitVec 1 := Scalar.cmpi .ne v533 c0_i32_438
  v534

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_439 : BitVec 32 := 4#32
  let v535 : BitVec 1 := Scalar.cmpi .ne v2 c4_i32_439
  let v536 : BitVec 32 := Scalar.extui v535
  let c0_i32_441 : BitVec 32 := 0#32
  let v537 : BitVec 1 := Scalar.cmpi .ne v536 c0_i32_441
  v537

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_442 : BitVec 32 := 5#32
  let v538 : BitVec 1 := Scalar.cmpi .ne v2 c5_i32_442
  let v539 : BitVec 32 := Scalar.extui v538
  let c0_i32_444 : BitVec 32 := 0#32
  let v540 : BitVec 1 := Scalar.cmpi .ne v539 c0_i32_444
  v540

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_445 : BitVec 32 := 6#32
  let v541 : BitVec 1 := Scalar.cmpi .ne v2 c6_i32_445
  let v542 : BitVec 32 := Scalar.extui v541
  let c0_i32_447 : BitVec 32 := 0#32
  let v543 : BitVec 1 := Scalar.cmpi .ne v542 c0_i32_447
  v543

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_448 : BitVec 32 := 7#32
  let v544 : BitVec 1 := Scalar.cmpi .ne v2 c7_i32_448
  let v545 : BitVec 32 := Scalar.extui v544
  let c0_i32_450 : BitVec 32 := 0#32
  let v546 : BitVec 1 := Scalar.cmpi .ne v545 c0_i32_450
  v546

def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_453 : BitVec 32 := 0#32
  let c0_i32_454 : BitVec 32 := 0#32
  ![v2.toNat, 0, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Slots.lean ====
/- Buffers held slot by slot: a buffer cut along its first axis into eight slots, the contents given slot by slot,
   and what a store or a landing copy leaves in a slot. -/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Ring
public import Idealize.ShloMosaic.Lib.Writes
public import Idealize.ShloMosaic.Lib.Transfers
public import Idealize.ShloMosaic.Lib.Tactic

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## A shape cut into rectangles -/

section Cut
variable {sh : Shape} {α : Type}

/-- A family of eight rectangles of one size that tile a shape: every index lies in one of them and in one only. -/
structure Tiles (sh : Shape) (size : Fin sh.rank → ℕ) where
  off : Fin 8 → Fin sh.rank → ℕ
  inb : ∀ s a, off s a + size a ≤ sh.size a
  cover : ∀ i : sh.Idx, ∃ s, ∀ a, off s a ≤ i a ∧ (i a : ℕ) < off s a + size a
  apart : ∀ s s' (i : sh.Idx), (∀ a, off s a ≤ i a ∧ (i a : ℕ) < off s a + size a) →
    (∀ a, off s' a ≤ i a ∧ (i a : ℕ) < off s' a + size a) → s = s'

variable {size : Fin sh.rank → ℕ} (T : Tiles sh size)

/-- The rectangle of tile `s`. -/
abbrev Tiles.rect (s : Fin 8) : Rect sh := Rect.unit (T.off s) size (T.inb s)

theorem Tiles.mem_of_emb (s : Fin 8) (x : (T.rect s).shape.Idx) :
    ∀ a, T.off s a ≤ (T.rect s).emb x a ∧ ((T.rect s).emb x a : ℕ) < T.off s a + size a :=
  Rect.mem_set_unit.mp (by rw [← Rect.map_emb_univ]; exact Finset.mem_map_of_mem _ (Finset.mem_univ x))

theorem Tiles.hit (i : sh.Idx) : ∃ s x, (T.rect s).emb x = i := by
  obtain ⟨s, hs⟩ := T.cover i
  have h := Rect.mem_set_unit (inb := T.inb s) |>.mpr hs
  rw [← Rect.map_emb_univ, Finset.mem_map] at h
  obtain ⟨x, -, hx⟩ := h
  exact ⟨s, x, hx⟩

theorem Tiles.once {s s' : Fin 8} {x : (T.rect s).shape.Idx} {x' : (T.rect s').shape.Idx}
    (h : (T.rect s).emb x = (T.rect s').emb x') : s = s' :=
  T.apart s s' _ (T.mem_of_emb s x) (by rw [h]; exact T.mem_of_emb s' x')

/-- The contents of the whole shape, given tile by tile. -/
def Tiles.glue (G : (s : Fin 8) → (T.rect s).shape.Idx → α) (i : sh.Idx) : α :=
  G (T.hit i).choose (T.hit i).choose_spec.choose

theorem Tiles.glue_emb (G : (s : Fin 8) → (T.rect s).shape.Idx → α) (s : Fin 8) (x : (T.rect s).shape.Idx) :
    T.glue G ((T.rect s).emb x) = G s x := by
  have h := (T.hit ((T.rect s).emb x)).choose_spec.choose_spec
  unfold Tiles.glue
  generalize (T.hit ((T.rect s).emb x)).choose_spec.choose = y at h ⊢
  generalize (T.hit ((T.rect s).emb x)).choose = t at y h ⊢
  obtain rfl := T.once h
  rw [(T.rect t).emb.injective h]

end Cut

/-- The eight slots of a three-axis buffer of eight slots. -/
def slotTiles (n k : ℕ) : Tiles ⟨3, ![8, n, k]⟩ ![1, n, k] where
  off s := ![s.val, 0, 0]
  inb s a := by fin_cases a <;> simp <;> omega
  cover i := by
    refine ⟨i 0, fun a => ?_⟩
    have h1 : (i 1 : ℕ) < n := (i 1).isLt
    have h2 : (i 2 : ℕ) < k := (i 2).isLt
    fin_cases a <;> simp <;> assumption
  apart s s' i h h' := by
    have h0 := h 0; have h0' := h' 0
    simp at h0 h0'
    exact Fin.ext (by omega)

/-- The eight row blocks of a two-axis buffer of `8 * n` rows. -/
def rowTiles (n k : ℕ) (hn : 0 < n) : Tiles ⟨2, ![8 * n, k]⟩ ![n, k] where
  off s := ![n * s.val, 0]
  inb s a := by
    have : n * s.val + n ≤ 8 * n := by
      rw [Nat.mul_comm 8 n]; exact Nat.mul_le_mul_left n (Nat.succ_le_of_lt s.isLt)
    fin_cases a <;> simp
    exact this
  cover i := by
    have h0 : (i 0 : ℕ) < 8 * n := (i 0).isLt
    have h1 : (i 1 : ℕ) < k := (i 1).isLt
    refine ⟨⟨(i 0 : ℕ) / n, by rw [Nat.div_lt_iff_lt_mul hn]; exact h0⟩, fun a => ?_⟩
    have hm := Nat.mod_lt (i 0 : ℕ) hn
    have hd := Nat.div_add_mod (i 0 : ℕ) n
    fin_cases a <;> simp
    · exact ⟨by omega, by omega⟩
    · exact h1
  apart s s' i h h' := by
    have h0 := h 0; have h0' := h' 0
    simp at h0 h0'
    have key : ∀ t : ℕ, n * t ≤ (i 0 : ℕ) → (i 0 : ℕ) < n * t + n → (i 0 : ℕ) / n = t := fun t ha hb =>
      Nat.div_eq_of_lt_le (by rw [Nat.mul_comm t n]; exact ha) (by rw [Nat.mul_comm (t + 1) n]; exact hb)
    exact Fin.ext ((key _ h0.1 h0.2).symm.trans (key _ h0'.1 h0'.2))

/-! ## Slots of a memref -/

section Pieces
variable {F : FTy → Type}
variable {U : Type} [URA U]
local notation "𝕄" => MT nD τ sig Unit (Elt F) ℕ U ℕ

/-- Two contents that read alike through a view hold the same piece. -/
theorem pts_of_read {Val : EltTy → Type} {sp s e} (v : View sig .tc sp s e) (c : Dev nD) (q : PosShare TreeShare) {f g : v.ty.Contents Val}
    (h : v.read Val f = v.read Val g) :
    (v.loc (c : Thread nD τ) ↦[v.set]{q} f : sProp (MT nD τ sig Unit Val ℕ U ℕ)) = (v.loc (c : Thread nD τ) ↦[v.set]{q} g) := by
  refine pointsTo_congr fun i hi => ?_
  obtain ⟨x, -, rfl⟩ := Finset.mem_map.mp hi
  have := congrFun h x
  rw [View.read_apply, View.read_apply] at this
  simpa using this

variable {sp : Space} {sh : Shape} {e : EltTy} {size : Fin sh.rank → ℕ} (M : Memref sig .tc sp sh e) (T : Tiles sh size)

/-- The elements of slot `s` of the memref. -/
abbrev slotSet (s : Fin 8) := (M.access (T.rect s)).set

theorem slotSet_apart (s s' : Fin 8) (h : s ≠ s') : Disjoint (slotSet M T s) (slotSet M T s') := by
  refine Finset.disjoint_left.mpr fun i hi hi' => h ?_
  obtain ⟨x, -, rfl⟩ := Finset.mem_map.mp hi
  obtain ⟨y, -, hy⟩ := Finset.mem_map.mp hi'
  exact (T.once (M.view.emb.injective hy)).symm

theorem slotSet_cover : Finset.univ.biUnion (slotSet M T) = M.view.set := by
  ext i
  rw [Finset.mem_biUnion]
  constructor
  · rintro ⟨s, -, hi⟩
    obtain ⟨x, -, rfl⟩ := Finset.mem_map.mp hi
    exact Finset.mem_map_of_mem _ (Finset.mem_univ _)
  · intro hi
    obtain ⟨x, -, rfl⟩ := Finset.mem_map.mp hi
    obtain ⟨s, y, rfl⟩ := T.hit x
    exact ⟨s, Finset.mem_univ _, Finset.mem_map.mpr ⟨y, Finset.mem_univ _, rfl⟩⟩

/-- A memref held whole is its eight slots held; -/
theorem slots_split (c : Dev nD) {q : PosShare TreeShare} (f : Buf (Elt F) (M.view.loc (c : Thread nD τ))) :
    (M.view.loc (c : Thread nD τ) ↦[M.view.set]{q} f : sProp 𝕄)
      = bigSep Finset.univ fun s => M.view.loc (c : Thread nD τ) ↦[slotSet M T s]{q} f :=
  Idealize.ShloMosaic.Ring.pointsTo_sub_blocks (ℓ := M.view.loc (c : Thread nD τ)) (slotSet M T) (slotSet_apart M T) M.view.set (slotSet_cover M T) f

/-- and slots each held at contents of its own are the memref held at some contents. -/
theorem slots_join (c : Dev nD) {q : PosShare TreeShare} (f₀ : Buf (Elt F) (M.view.loc (c : Thread nD τ))) :
    bigSep Finset.univ (fun s => iprop(∃ f, M.view.loc (c : Thread nD τ) ↦[slotSet M T s]{q} f))
      ⊢ (iprop(∃ g, M.view.loc (c : Thread nD τ) ↦[M.view.set]{q} g) : sProp 𝕄) :=
  Idealize.ShloMosaic.Ring.pointsTo_sub_blocks_join_exists (ℓ := M.view.loc (c : Thread nD τ)) (slotSet M T) (slotSet_apart M T) M.view.set (slotSet_cover M T) f₀

end Pieces

end Cert.KernelProof
-- ==== Proof.Plan.lean ====
/- The plan of the run: the buffers and semaphores by name, what every buffer holds once it is filled, what each
   semaphore's arrivals hand over, what each device owes at launch, and the order in which it may wait. -/
module

public import proofs.«01_k».proof.Proof.Slots

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging's copy, and one whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev xM : Memref sig .tc .vmem S512x4096 .bf16 := Memref.whole cc0_stg0_0
abbrev wM : Memref sig .tc .vmem S4096x2048 .bf16 := Memref.whole cc0_stg1_0
abbrev oM : Memref sig .tc .vmem S4096x256 .f32 := Memref.whole cc0_stg2_0
abbrev yM : Memref sig .tc .vmem S8x512x256 .f32 := Memref.whole cc0_scratch0
abbrev sqM : Memref sig .tc .vmem S8x512x256 .fp8e4m3 := Memref.whole cc0_scratch1
abbrev rqM : Memref sig .tc .vmem S8x512x256 .fp8e4m3 := Memref.whole cc0_scratch2
abbrev asM : Memref sig .tc .vmem S8x128 .f32 := Memref.whole cc0_scratch3
abbrev arM : Memref sig .tc .vmem S8x8x128 .f32 := Memref.whole cc0_scratch4

/-- The slots of the chunk buffers, of the maxima received, and the row blocks of the output. -/
abbrev qT : Tiles S8x512x256 S1x512x256.size := slotTiles 512 256
abbrev aT : Tiles S8x8x128 S1x8x128.size := slotTiles 8 128
abbrev oT : Tiles S4096x256 S512x256.size := rowTiles 512 256 (by decide)

/-- A chunk slot as a two-axis memref, as the copies name it; and a slot of the maxima. -/
abbrev chunkOf (M : Memref sig .tc .vmem S8x512x256 .fp8e4m3) (s : Fin 8) : Memref sig .tc .vmem S512x256 .fp8e4m3 :=
  (M.slice (qT.rect s) (fun _ => rfl)).squeeze S512x256 squeezes_S1x512x256_S512x256
abbrev amaxOf (s : Fin 8) : Memref sig .tc .vmem S8x128 .f32 :=
  (arM.slice (aT.rect s) (fun _ => rfl)).squeeze S8x128 squeezes_S1x8x128_S8x128

/-! ## Semaphores -/

/-- The barrier semaphore; the four arrays of eight copy semaphores: chunks sent, chunks received, maxima sent,
    maxima received. -/
abbrev barS : Sem sig := (SemArray.scalar (sig.barrier 0 rfl) : Sems sig S_).sem
def copyS (ak : Fin 4 × Fin 8) : DmaSem sig := ⟨3 + 8 * ak.1.val + ak.2.val, by have := ak.1.isLt; have := ak.2.isLt; show _ < 35; omega⟩
/-- Which of the four arrays, and which entry, a copy semaphore is. -/
def copyIx (q : DmaSem sig) : Option (Fin 4 × Fin 8) :=
  if h : 3 ≤ q.val then some (⟨(q.val - 3) / 8, by have : q.val < 35 := q.isLt; omega⟩, ⟨(q.val - 3) % 8, Nat.mod_lt _ (by decide)⟩) else none

theorem copyIx_copyS (ak : Fin 4 × Fin 8) : copyIx (copyS ak) = some ak := by revert ak; decide
theorem copyS_injective : Function.Injective copyS := fun a b h => Option.some.inj (by rw [← copyIx_copyS, h, copyIx_copyS])

abbrev barCell (c : Dev nD) : GSem nD τ sig := ((c : Thread nD τ), .reg barS)
abbrev copyCell (c : Dev nD) (ak : Fin 4 × Fin 8) : GSem nD τ sig := ((c : Thread nD τ), .dma (copyS ak))

/-- The kernel's own (scoped) semaphores, and all it uses. -/
abbrev osem (ak : Fin 4 × Fin 8) : SemLoc sig := .dma (copyS ak)
abbrev KIx := Unit ⊕ (Fin 4 × Fin 8)
abbrev csem : KIx → SemLoc sig := fun | .inl _ => .reg barS | .inr ak => .dma (copyS ak)
abbrev kcell (ck : Dev nD × KIx) : GSem nD τ sig := ((ck.1 : Thread nD τ), csem ck.2)

/-- The bytes a chunk's copy and a maximum's copy are worth at their semaphores. -/
abbrev Nq : ℕ := (chunkOf rqM 0).view.dmaCredit
abbrev Na : ℕ := (amaxOf 0).view.dmaCredit
theorem Nq_pos : 0 < Nq := View.dmaCredit_pos _ (by decide)
theorem Na_pos : 0 < Na := View.dmaCredit_pos _ (by decide)

/-! ## Contents -/

section Contents
variable (X : Dev nD → Vec F S512x4096 .bf16) (W : Dev nD → Vec F S4096x2048 .bf16)

/-- The device's number as the kernel's word. -/
abbrev word (c : Dev nD) : BitVec 32 := Scalar.remsi (Scalar.divsi (Dev.word c) 1#32) 8#32

/-- The columns of the weights that device `c` multiplies at step `d`: those of device `c + d`. -/
def wd (c : Dev nD) (d : Fin 8) : Vec F S4096x256 .bf16 :=
  (wM.access (Rect.unit (s := S4096x2048) (k0_off1 c (BitVec.ofNat 32 d.val)) S4096x256.size (k0_off1_inb c d))).read (Elt F) (W c)
/-- The product of step `d`, and its largest magnitude. -/
def yPay (c : Dev nD) (d : Fin 8) : Vec F S1x512x256 .f32 := k0_pay3 (X c) (wd W c d)
def yMax (c : Dev nD) (d : Fin 8) : F .f32 := k0_pay2 (X c) (wd W c d)
/-- The largest magnitude on device `c`: over its eight products. -/
def devMax (c : Dev nD) : F .f32 :=
  k0_pay24 (yMax X W c 1) (yMax X W c 2) (yMax X W c 3) (yMax X W c 4) (yMax X W c 5) (yMax X W c 6)
    (k0_pay19 (X c)) (wd W c 7) (X c) (wd W c 0)
/-- The largest magnitude over all devices, as device `c` gathers it. -/
def allMax (c : Dev nD) : F .f32 :=
  k0_pay28 (word c) (devMax X W c)
    (k0_pay27 (word c) (devMax X W c) (fun _ => devMax X W 0) (fun _ => devMax X W 1) (fun _ => devMax X W 2) (fun _ => devMax X W 3) (fun _ => devMax X W 4))
    (Scalar.cmpi .eq (word c) 5#32) (fun _ => devMax X W 5) (fun _ => devMax X W 6) (fun _ => devMax X W 7)
/-- The quantisation step and its reciprocal. -/
def stepOf (c : Dev nD) : F .f32 := Scalar.divf (allMax X W c) (Scalar.ofBits .f32 0x43E00000#32)
def invOf (c : Dev nD) : F .f32 := Scalar.divf (Scalar.ofBits .f32 0x43E00000#32) (allMax X W c)
/-- The quantised product of step `d`. -/
def qPay (c : Dev nD) (d : Fin 8) : Vec F S1x512x256 .fp8e4m3 := k0_pay32 (invOf X W c) (yPay X W c d)
/-- Row block `s` of device `c`'s output. -/
def outPay (c : Dev nD) (s : Fin 8) : Vec F S512x256 .f32 :=
  if s = c then k0_pay39 (stepOf X W c) (invOf X W c) (yPay X W c 0) else k0_pay47 (stepOf X W c) (qPay X W s (c - s))

def yBuf (c : Dev nD) : Vec F S8x512x256 .f32 := qT.glue (yPay X W c)
def sendBuf (c : Dev nD) : Vec F S8x512x256 .fp8e4m3 := qT.glue (qPay X W c)
def recvBuf (c : Dev nD) : Vec F S8x512x256 .fp8e4m3 := qT.glue (fun s => qPay X W s (c - s))
def ownMaxBuf (c : Dev nD) : Vec F S8x128 .f32 := fun _ => devMax X W c
def allMaxBuf : Vec F S8x8x128 .f32 := fun i => devMax X W (i 0)
def outBuf (c : Dev nD) : Vec F S4096x256 .f32 := oT.glue (outPay X W c)

end Contents

/-! ## Pieces held -/

/-- Slot `s` of a buffer on device `c`, holding what `f` has there. -/
abbrev piece {sp : Space} {sh : Shape} {e : EltTy} {size : Fin sh.rank → ℕ} (M : Memref sig .tc sp sh e) (T : Tiles sh size)
    (c : Dev nD) (s : Fin 8) (f : Buf (Elt F) (M.view.loc (c : Thread nD τ))) : sProp 𝕄 :=
  M.view.loc (c : Thread nD τ) ↦[slotSet M T s]{fullShare} f

/-- The share of the sender's maximum that the copy to device `p` reads. -/
abbrev share (p : Fin 8) : PosShare TreeShare := Transfers.shareTok fullShare 8 p
/-- The device's maximum, held at a share. -/
abbrev maxAt (c : Dev nD) (q : PosShare TreeShare) (f : Buf (Elt F) (asM.view.loc (c : Thread nD τ))) : sProp 𝕄 :=
  asM.view.loc (c : Thread nD τ) ↦[asM.view.set]{q} f

/-! ## The schedule: one round -/

section Schedule
variable (X : Dev nD → Vec F S512x4096 .bf16) (W : Dev nD → Vec F S4096x2048 .bf16)

/-- What device `p`'s signal hands device `c`: the slots of `p` that `c` writes. -/
def barPay (c p : Dev nD) : sProp 𝕄 := iprop((∃ f, piece arM aT p c f) ∗ ∃ f, piece rqM qT p c f)
theorem storable_two {α β : Type} (P : α → sProp 𝕄) (Q : β → sProp 𝕄) (hP : ∀ a, BI.Storable (upEmb : UEmb _ 𝕄) (P a))
    (hQ : ∀ b, BI.Storable (upEmb : UEmb _ 𝕄) (Q b)) : BI.Storable (upEmb : UEmb _ 𝕄) iprop((∃ a, P a) ∗ ∃ b, Q b) := inferInstance
instance barPay_storable (c p : Dev nD) : BI.Storable (upEmb : UEmb _ 𝕄) (barPay (F := F) c p) :=
  storable_two (fun f => piece arM aT p c f) (fun f => piece rqM qT p c f) (fun _ => inferInstance) (fun _ => inferInstance)
/-- What the completion of a copy hands the device at whose semaphore it is counted. -/
def copyPay (c : Dev nD) (ak : Fin 4 × Fin 8) : sProp 𝕄 := match ak.1 with
  | 0 => piece sqM qT c ak.2 (sendBuf X W c)
  | 1 => piece rqM qT c ak.2 (recvBuf X W c)
  | 2 => maxAt c (share ak.2) (ownMaxBuf X W c)
  | 3 => piece arM aT c ak.2 (allMaxBuf X W)

/-- The semaphores a device has no copy at: the chunk it keeps, and everything between it and itself. -/
abbrev idle (c : Dev nD) (ak : Fin 4 × Fin 8) : Prop := if ak.1 = 0 then ak.2 = 0 else ak.2 = c
abbrev worth (a : Fin 4) : ℕ := if a.val < 2 then Nq else Na

def plan : Rounds.Schedule (GSem nD τ sig) (Dev nD) 𝕄 where
  duties g r := if r = 0 ∧ g.1.2 = .tc then
      match g.2 with
      | .reg s => if s = barS then Finset.univ.erase g.1.1 else ∅
      | .dma q => match copyIx q with
        | some ak => if idle g.1.1 ak then ∅ else {0}
        | none => ∅
    else ∅
  unitless _ := False
  amount g _ _ := match g.2 with
    | .reg _ => 1
    | .dma q => match copyIx q with
      | some ak => worth ak.1
      | none => 1
  payload g _ p := match g.2 with
    | .reg _ => barPay g.1.1 p
    | .dma q => match copyIx q with
      | some ak => copyPay X W g.1.1 ak
      | none => iprop(emp)
  amount_pos g _ _ _ := by
    rcases g with ⟨t, s | q⟩
    · exact Nat.one_pos
    · dsimp only
      split
      · unfold worth; split
        · exact Nq_pos
        · exact Na_pos
      · exact Nat.one_pos

instance plan_payload_storable (g : GSem nD τ sig) (r : ℕ) (d : Dev nD) :
    BI.Storable (upEmb : UEmb _ 𝕄) ((plan (F := F) X W).payload g r d) := by
  rcases g with ⟨t, s | q⟩
  · show BI.Storable upEmb (barPay t.1 d)
    exact barPay_storable t.1 d
  · show BI.Storable upEmb (match copyIx q with | some ak => copyPay X W t.1 ak | none => iprop(emp))
    split
    · unfold copyPay; split <;> infer_instance
    · infer_instance

variable (c : Dev nD) (ak : Fin 4 × Fin 8)

theorem duties_bar : (plan (F := F) X W).duties (barCell c) 0 = Finset.univ.erase c := rfl
theorem duties_copy (h : ¬ idle c ak) : (plan (F := F) X W).duties (copyCell c ak) 0 = {0} := by
  dsimp only [plan]; rw [if_pos ⟨rfl, rfl⟩, copyIx_copyS]; exact if_neg h
theorem duties_idle (h : idle c ak) (r : ℕ) : (plan (F := F) X W).duties (copyCell c ak) r = ∅ := by
  dsimp only [plan]; rw [copyIx_copyS]; dsimp only; rw [if_pos h, ite_self]
theorem duties_later (g : GSem nD τ sig) : ∀ r, 1 ≤ r → (plan (F := F) X W).duties g r = ∅ :=
  fun r hr => by dsimp only [plan]; exact if_neg fun h => by omega

theorem amount_copy (p : Dev nD) : (plan (F := F) X W).amount (copyCell c ak) 0 p = worth ak.1 := by
  dsimp only [plan]; rw [copyIx_copyS]
theorem payload_copy (p : Dev nD) : (plan (F := F) X W).payload (copyCell c ak) 0 p = copyPay X W c ak := by
  dsimp only [plan]; rw [copyIx_copyS]
theorem payload_bar (p : Dev nD) : (plan (F := F) X W).payload (barCell c) 0 p = barPay c p := rfl

theorem expect_bar : (plan (F := F) X W).expect (barCell c) 0 = 7 := by
  unfold Schedule.expect Schedule.amountOf
  rw [duties_bar, Finset.sum_congr rfl fun p _ => show (plan (F := F) X W).amount (barCell c) 0 p = 1 from rfl, Finset.sum_const,
    Finset.card_erase_of_mem (Finset.mem_univ c), Finset.card_univ, smul_eq_mul]
  rfl
theorem expect_copy (h : ¬ idle c ak) : (plan (F := F) X W).expect (copyCell c ak) 0 = worth ak.1 := by
  unfold Schedule.expect Schedule.amountOf; rw [duties_copy X W c ak h, Finset.sum_singleton, amount_copy]
theorem rest_copy (h : ¬ idle c ak) :
    bigSep ((plan (F := F) X W).duties (copyCell c ak) 0 \ ∅) (fun p => (plan (F := F) X W).payload (copyCell c ak) 0 p) = copyPay X W c ak := by
  rw [Finset.sdiff_empty, duties_copy X W c ak h, bigSep_singleton, payload_copy]

end Schedule

/-! ## What a device owes; the levels -/

/-- The sum of a family over the entries from `k` on. -/
def rest (f : Fin 8 → CellTallies nD τ sig Unit) (k : ℕ) : CellTallies nD τ sig Unit := ∑ p : Fin 8, if k ≤ p.val then f p else 0

theorem rest_step (f : Fin 8 → CellTallies nD τ sig Unit) (p : Fin 8) : rest f p.val = rest f (p.val + 1) + f p := by
  unfold rest
  rw [← Finset.add_sum_erase _ _ (Finset.mem_univ p), ← Finset.add_sum_erase _ (fun q : Fin 8 => if p.val + 1 ≤ q.val then f q else 0) (Finset.mem_univ p),
    if_pos le_rfl, if_neg (by omega), zero_add, add_comm]
  congr 1
  refine Finset.sum_congr rfl fun q hq => ?_
  have : q.val ≠ p.val := fun h => Finset.ne_of_mem_erase hq (Fin.ext h)
  exact if_congr (by omega) rfl rfl
theorem rest_end (f : Fin 8 → CellTallies nD τ sig Unit) : rest f 8 = 0 :=
  Finset.sum_eq_zero fun p _ => if_neg (by omega)
theorem rest_pos {f : Fin 8 → CellTallies nD τ sig Unit} {k : ℕ} {g : GSem nD τ sig} {u : Unit} (h : 0 < rest f k g u) : ∃ p, 0 < f p g u := by
  by_contra hn
  push Not at hn
  have : rest f k g u = 0 := by
    unfold rest
    rw [Finset.sum_apply, Finsupp.finset_sum_apply]
    refine Finset.sum_eq_zero fun p _ => ?_
    split
    · exact Nat.le_zero.mp (hn p)
    · rfl
  omega

def dueBar (c p : Dev nD) : CellTallies nD τ sig Unit := if p = c then 0 else tallyAt (barCell p) () 1
def dueMax (c p : Dev nD) : CellTallies nD τ sig Unit := if p = c then 0 else tallyAt (copyCell p (3, c)) () Na
def dueChunk (c : Dev nD) (d : Fin 8) : CellTallies nD τ sig Unit := if d = 0 then 0 else tallyAt (copyCell (c + d) (1, c)) () Nq
/-- What device `c` still owes when its next signal is to device `b`, its next maximum to device `a` and its next
    chunk that of step `d`. -/
def due (c : Dev nD) (b a d : ℕ) : CellTallies nD τ sig Unit := rest (dueChunk c) d + rest (dueMax c) a + rest (dueBar c) b

def L (g : GSem nD τ sig) : Finset Unit := if g.1.2 = .tc then {()} else ∅
/-- Barriers first, then the maxima received, then the chunks received; everything else waits on nothing. -/
def lv (g : GSem nD τ sig) (_ : Unit) : ℕ := match g.2 with
  | .reg _ => 1
  | .dma q => match copyIx q with
    | some (3, _) => 2
    | some (1, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_max (c s : Dev nD) : lv (copyCell c (3, s)) () = 2 := by unfold lv; dsimp only; rw [copyIx_copyS]; rfl
theorem lv_chunk (c s : Dev nD) : lv (copyCell c (1, s)) () = 3 := by unfold lv; dsimp only; rw [copyIx_copyS]; rfl

theorem pos_ite {P : Prop} [Decidable P] {g' g : GSem nD τ sig} {n : ℕ} {u : Unit} (h : 0 < (if P then 0 else tallyAt g' () n : CellTallies nD τ sig Unit) g u) : g = g' := by
  by_contra hn
  split at h
  · exact Nat.lt_irrefl 0 h
  · rw [tallyAt_apply, if_neg fun h' => hn h'.1] at h; exact Nat.lt_irrefl 0 h

/-- Every cell a device still owes is a tensor core's, and at a level that tells what is left to do. -/
theorem due_pos {c : Dev nD} {b a d : ℕ} {g : GSem nD τ sig} {u : Unit} (h : 0 < due c b a d g u) :
    () ∈ L g ∧ 1 ≤ lv g () ∧ (8 ≤ b → 2 ≤ lv g ()) ∧ (8 ≤ b → 8 ≤ a → 3 ≤ lv g ()) := by
  have hz : ∀ f : Fin 8 → CellTallies nD τ sig Unit, ∀ k, 8 ≤ k → rest f k = 0 := fun f k hk =>
    Finset.sum_eq_zero fun p _ => if_neg (by omega)
  unfold due at h
  rw [Pi.add_apply, Finsupp.add_apply, Pi.add_apply, Finsupp.add_apply] at h
  have key : 0 < rest (dueChunk c) d g u ∨ 0 < rest (dueMax c) a g u ∨ 0 < rest (dueBar c) b g u := by omega
  rcases key with h | h | h
  · obtain ⟨p, hp⟩ := rest_pos h
    obtain rfl := pos_ite hp
    rw [L_tc, lv_chunk]; simp
  · by_cases ha : 8 ≤ a
    · rw [hz _ _ ha] at h; exact absurd h (Nat.lt_irrefl 0)
    obtain ⟨p, hp⟩ := rest_pos h
    obtain rfl := pos_ite hp
    rw [L_tc, lv_max]; simp [ha]
  · by_cases hb : 8 ≤ b
    · rw [hz _ _ hb] at h; exact absurd h (Nat.lt_irrefl 0)
    obtain ⟨p, hp⟩ := rest_pos h
    obtain rfl := pos_ite hp
    rw [L_tc]; simp [hb, lv]

/-- A device may wait at a semaphore of its own that lies below everything it still owes. -/
theorem mayWait {c : Dev nD} {sm : SemLoc sig} {b a d n : ℕ} (hn : lv ((c : Thread nD τ), sm) () ≤ n)
    (h : ∀ g, 0 < due c b a d g () → n < lv g ()) :
    (levAts L lv : sProp 𝕄) ⊢ MayWait (c : Thread nD τ) sm () (due c b a d) :=
  MayOwe.of_cut (L := L) (lev := lv) n (fun p hp => by rw [Finset.mem_singleton.mp hp, L_tc]; exact Finset.mem_singleton_self _)
    (fun g u hg => (due_pos hg).1) (fun p hp => by rw [Finset.mem_singleton.mp hp]; exact hn) (fun g u hg => h g hg)

end Cert.KernelProof
-- ==== Proof.Steps.lean ====
/- The kernel's steps, one statement per operation it repeats: a signal, a store of a product, a copy of a maximum or of
   a chunk, and the waits. -/
module

public import proofs.«01_k».proof.Proof.Plan

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none
abbrev PR (F : FTy → Type) (α : Type) := Prog (TpuEff nD τ sig (Elt F) Λ₀ .tc) α
/-- The kernel on device `c` runs `p` and then has `Q`. -/
abbrev runs {α : Type} (c : Dev nD) (p : PR F α) (Q : α → sProp 𝕄) : sProp 𝕄 :=
  wp frame (wpE (defs₀ (F := F)) 𝒱₀ (c : Thread nD τ) none) Set.univ p Q

variable (X : Dev nD → Vec F S512x4096 .bf16) (W : Dev nD → Vec F S4096x2048 .bf16)

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem pick (Φ : Fin 8 → sProp 𝕄) (i : Fin 8) : bigSep Finset.univ Φ = iprop(Φ i ∗ bigSep (Finset.univ.erase i) Φ) := bigSep_erase (Finset.mem_univ i)

/-! ## What every step may use -/

section Context
variable (K : Dev nD × KIx → ℕ)

/-- The invariants of all cells, that every cell is at its one round, and the levels. -/
def known : sProp 𝕄 :=
  iprop((bigSep Finset.univ fun ck : Dev nD × KIx => cellInv ER (plan X W) (K ck) (kcell ck))
    ∗ (bigSep Finset.univ fun ck : Dev nD × KIx => reached ER (kcell ck) 0) ∗ levAts L lv)
instance known_persistent : BI.Persistent (known X W K) := by unfold known; infer_instance

theorem known_inv (ck : Dev nD × KIx) : known X W K ⊢ cellInv ER (plan X W) (K ck) (kcell ck) := by
  unfold known; iintro ⟨H, -, -⟩; iapply (show (bigSep Finset.univ fun ck : Dev nD × KIx => (cellInv ER (plan X W) (K ck) (kcell ck) : sProp 𝕄)) ⊢ cellInv ER (plan X W) (K ck) (kcell ck) from bigSep_elim (Finset.mem_univ ck)); iexact H
theorem known_reached (ck : Dev nD × KIx) : known X W K ⊢ reached ER (kcell ck) 0 := by
  unfold known; iintro ⟨-, H, -⟩; iapply (show (bigSep Finset.univ fun ck : Dev nD × KIx => (reached ER (kcell ck) 0 : sProp 𝕄)) ⊢ reached ER (kcell ck) 0 from bigSep_elim (Finset.mem_univ ck)); iexact H
theorem known_lev : known X W K ⊢ (levAts L lv : sProp 𝕄) := by unfold known; iintro ⟨-, -, H⟩; iexact H

end Context

/-- What device `c` owes at a point of its program, whatever it has waited at. -/
def owing (c : Dev nD) (b a d : ℕ) : sProp 𝕄 := iprop(∃ Ws, owes (c : Thread nD τ) (due c b a d) Ws)

theorem due_signal (c : Dev nD) (p : Fin 8) (a d : ℕ) : due c p.val a d = due c (p.val + 1) a d + dueBar c p := by
  unfold due; rw [rest_step (dueBar c) p, ← add_assoc]
theorem due_max (c : Dev nD) (p : Fin 8) (d : ℕ) : due c 8 p.val d = due c 8 (p.val + 1) d + dueMax c p := by
  unfold due; rw [rest_step (dueMax c) p, rest_end, add_zero, add_zero, add_assoc]
theorem due_chunk (c : Dev nD) (p : Fin 8) : due c 8 8 p.val = due c 8 8 (p.val + 1) + dueChunk c p := by
  unfold due; rw [rest_step (dueChunk c) p, rest_end, rest_end, add_zero, add_zero, add_zero, add_zero]
theorem due_end (c : Dev nD) : due c 8 8 8 = 0 := by
  unfold due; rw [rest_end, rest_end, rest_end, add_zero, add_zero]

section Steps
variable (K : Dev nD × KIx → ℕ) {α : Type}

/-- Which device this is. -/
theorem step_device {Q : α → sProp 𝕄} (c : Dev nD) {k : Dev nD → PR F α} : runs c (k c) Q ⊢ runs c (.op .deviceId k) Q := by
  unfold runs; rw [wp_deviceId]

/-- A program ends in its value; one after another. -/
theorem step_end {Q : α → sProp 𝕄} (c : Dev nD) (a : α) : Q a ⊢ runs c (.ret a : PR F α) Q := by
  unfold runs; rw [wp_ret]; iintro H; imodintro; iexact H
theorem step_done {Q : α → sProp 𝕄} (c : Dev nD) (a : α) {p : PR F α} (h : p = .ret a) : Q a ⊢ runs c p Q := h ▸ step_end c a
theorem step_part {β : Type} {Q : α → sProp 𝕄} (c : Dev nD) (p : PR F β) (f : β → PR F α) :
    runs c p (fun r => runs c (f r) Q) ⊢ runs c (p >>= f) Q := by
  unfold runs; rw [wp_bind]

/-! ## Waits -/

/-- A wait for all a cell's round counts: it takes the payloads, and the cell is closed. -/
theorem wait_cell {Q : α → sProp 𝕄} (c : Dev nD) (i : KIx) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (csem i) n K)
    (hn : n = (plan (F := F) X W).expect (kcell (c, i)) 0) {b a d : ℕ}
    (hm : (levAts L lv : sProp 𝕄) ⊢ MayWait (c : Thread nD τ) (csem i) () (due c b a d)) {k : PUnit → PR F α} :
    known X W K ⊢ iprop(atPos ER (kcell (c, i)) 0 ∅ 0 -∗ cred (tallyAt (kcell (c, i)) () n) -∗ owing c b a d
      -∗ ((bigSep ((plan (F := F) X W).duties (kcell (c, i)) 0 \ ∅) fun p => (plan (F := F) X W).payload (kcell (c, i)) 0 p)
          -∗ semVal (kcell (c, i)) 0 -∗ owing c b a d -∗ runs c (k ⟨⟩) Q)
      -∗ runs c (.op w k) Q) := by
  iintro #HK Hat Hc Ho Hk
  unfold owing
  icases Ho with ⟨%Ws, Ho⟩
  iapply (Rounds.wp_wait_rest_token 𝒱₀ ER (plan X W) (c : Thread nD τ) none (κ := K (c, i)) hw (Set.mem_univ _) ()
    (O := due c b a d) (W := Ws) (R := 0) (m := 0) (T := ∅) (by rw [Nat.zero_add, hn])) $$ [Hc Ho Hat]
  · isplitr; · iapply (known_inv X W K (c, i)); iexact HK
    isplitl [Hc]; · iexact Hc
    isplitl [Ho]; · iexact Ho
    isplitr; · iapply hm; iapply (known_lev X W K); iexact HK
    iexact Hat
  iintro ⟨Ho, Hat, -, Hpay⟩
  imod (Rounds.cell_close ER (plan X W) (Set.mem_univ (K (c, i))) (fun h => h) (R := 0 + 1) (duties_later X W (kcell (c, i)))) $$ [Hat] with Hz
  · isplitr; · iapply (known_inv X W K (c, i)); iexact HK
    iexact Hat
  iapply Hk $$ Hpay Hz
  iexists _; iexact Ho

/-- A cell with nothing counted on it closes at once. -/
theorem close_idle {Q : α → sProp 𝕄} (c : Dev nD) (ak : Fin 4 × Fin 8) (h : idle c ak) {p : PR F α} :
    known X W K ⊢ iprop(atPos ER (copyCell c ak) 0 ∅ 0 -∗ (semVal (copyCell c ak) 0 -∗ runs c p Q) -∗ runs c p Q) := by
  iintro #HK Hat Hk
  imod (Rounds.cell_close ER (plan X W) (Set.mem_univ (K (c, .inr ak))) (fun h => h) (R := 0) (fun r _ => duties_idle X W c ak h r)) $$ [Hat] with Hz
  · isplitr; · iapply (known_inv X W K (c, .inr ak)); iexact HK
    iexact Hat
  iapply Hk $$ Hz

/-- What a device has for its wait at a copy semaphore, and what the wait leaves it. -/
def waitCred (c : Dev nD) (ak : Fin 4 × Fin 8) : sProp 𝕄 := if idle c ak then iprop(emp) else cred (tallyAt (copyCell c ak) () (worth ak.1))
def waitPay (c : Dev nD) (ak : Fin 4 × Fin 8) : sProp 𝕄 := if idle c ak then iprop(emp) else copyPay X W c ak

/-- The wait at a copy semaphore that has a copy. -/
theorem wait_copy {Q : α → sProp 𝕄} (c : Dev nD) (ak : Fin 4 × Fin 8) (hi : ¬ idle c ak) {b a d : ℕ}
    (hm : (levAts L lv : sProp 𝕄) ⊢ MayWait (c : Thread nD τ) (.dma (copyS ak)) () (due c b a d))
    {sem : DmaSem sig} (hs : sem = copyS ak) {sp sp' : Space} {sh sh' : Shape} {e e' : EltTy} {src : Memref sig .tc sp' sh' e'}
    {dst : Memref sig .tc sp sh e} {h₁ : src.view.WordExact} {h₂ : dst.view.WordExact} (hd : dst.view.dmaCredit = worth ak.1) {k : PUnit → PR F α} :
    known X W K ⊢ iprop(atPos ER (copyCell c ak) 0 ∅ 0 -∗ waitCred c ak -∗ owing c b a d
      -∗ (copyPay X W c ak -∗ semVal (copyCell c ak) 0 -∗ owing c b a d -∗ runs c (k ⟨⟩) Q)
      -∗ runs c (.op (.waitDma2 sem src dst h₁ h₂) k) Q) := by
  subst hs
  rw [show waitCred (F := F) c ak = cred (tallyAt (copyCell c ak) () dst.view.dmaCredit) by unfold waitCred; rw [if_neg hi, hd]]
  iintro #HK Hat Hc Ho Hk
  iapply (wait_cell X W K c (.inr ak) (wpE_waitDma2_eq 𝒱₀ (c : Thread nD τ) none Set.univ) (by rw [hd]; exact (expect_copy X W c ak hi).symm) hm) $$ HK Hat Hc Ho
  iintro Hpay Hz Ho
  ihave Hp := (Entails.of_eq (rest_copy X W c ak hi)) $$ Hpay
  iapply Hk $$ Hp Hz Ho

/-- A wait at a copy semaphore, taken only if a copy is counted on it. -/
theorem step_wait {Q : α → sProp 𝕄} (c : Dev nD) (ak : Fin 4 × Fin 8) {t : Prop} [Decidable t] (ht : t ↔ ¬ idle c ak) {b a d : ℕ}
    (hm : (levAts L lv : sProp 𝕄) ⊢ MayWait (c : Thread nD τ) (.dma (copyS ak)) () (due c b a d))
    {sem : t → DmaSem sig} (hs : ∀ h, sem h = copyS ak) {sp sp' : Space} {sh sh' : Shape} {e e' : EltTy} {src : t → Memref sig .tc sp' sh' e'}
    {dst : t → Memref sig .tc sp sh e} {h₁ : ∀ h, (src h).view.WordExact} {h₂ : ∀ h, (dst h).view.WordExact}
    (hd : ∀ h, (dst h).view.dmaCredit = worth ak.1) {k : t → PUnit → PR F α} {B : PR F α} (hk : ∀ h, k h ⟨⟩ = B) :
    known X W K ⊢ iprop(atPos ER (copyCell c ak) 0 ∅ 0 -∗ waitCred c ak -∗ owing c b a d
      -∗ (waitPay X W c ak -∗ semVal (copyCell c ak) 0 -∗ owing c b a d -∗ runs c B Q)
      -∗ runs c (if h : t then .op (.waitDma2 (sem h) (src h) (dst h) (h₁ h) (h₂ h)) (k h) else B) Q) := by
  iintro #HK Hat Hc Ho Hk
  unfold waitPay
  by_cases hi : idle c ak
  · rw [dif_neg (fun h => ht.mp h hi), if_pos hi]
    iapply (close_idle X W K c ak hi) $$ HK Hat
    iintro Hz
    iapply Hk $$ [] Hz Ho
    iempintro
  · rw [dif_pos (ht.mpr hi), if_neg hi]
    iapply (wait_copy X W K c ak hi hm (hs _) (hd _)) $$ HK Hat Hc Ho
    rw [hk]
    iexact Hk

/-! ## The barrier -/

/-- Device `c` to device `p`: its landing slots for `p`, and the right to signal. -/
def signalIn (c p : Dev nD) : sProp 𝕄 := iprop(barPay p c ∗ if p = c then iprop(emp) else dutyTok ER (barCell p) 0 c)
def signalOut (c p : Dev nD) : sProp 𝕄 := if p = c then barPay c c else iprop(emp)

theorem step_signal {Q : α → sProp 𝕄} (c p : Dev nD) (n n' : ℕ) (hv : n = p.val ∧ n' = p.val + 1) {a d : ℕ} {b : Prop} [Decidable b] (hb : b ↔ p ≠ c) {t : b → Dev nD} (ht : ∀ h, t h = p)
    {k : b → PUnit → PR F α} {B : PR F α} (hk : ∀ h, k h ⟨⟩ = B) :
    known X W K ⊢ iprop(signalIn c p -∗ owing c n a d -∗ (signalOut c p -∗ owing c n' a d -∗ runs c B Q)
      -∗ runs c (if h : b then (.op (.semSignal (t h : Thread nD τ) barS (BitVec.toNat 1#32)) (k h)) else B) Q) := by
  obtain ⟨rfl, rfl⟩ := hv
  iintro #HK Hin Ho Hk
  unfold signalIn signalOut
  by_cases hp : p = c
  · subst hp
    rw [dif_neg (fun h => hb.mp h rfl), if_pos rfl, if_pos rfl]
    icases Hin with ⟨Hpay, -⟩
    iapply Hk $$ Hpay
    unfold owing
    rw [due_signal, dueBar, if_pos rfl, add_zero]; iexact Ho
  · rw [dif_pos (hb.mpr hp), if_neg hp, if_neg hp, ht]
    unfold owing
    icases Hin with ⟨Hpay, Htok⟩
    icases Ho with ⟨%Ws, Ho⟩
    iapply (Rounds.wp_signal 𝒱₀ ER (plan X W) (c : Thread nD τ) none (dst := (p : Thread nD τ)) (κ := K (p, .inl ()))
      (d := c) (by rw [duties_bar]; exact Finset.mem_erase.mpr ⟨Ne.symm hp, Finset.mem_univ _⟩) (show (1 : ℕ) = _ by decide) ()
      (O₀ := due c p.val a d) (due c (p.val + 1) a d) (by rw [due_signal, dueBar, if_neg hp]; rfl)) $$ [Ho Htok Hpay]
    · isplitr; · iapply (known_inv X W K (p, .inl ())); iexact HK
      isplitl [Ho]; · iexact Ho
      isplitl [Htok]; · iexact Htok
      isplitl [Hpay]; · rw [payload_bar]; iexact Hpay
      iapply (known_reached X W K (p, .inl ())); iexact HK
    iintro Ho
    rw [hk]
    iapply Hk $$ [] [Ho]
    · iempintro
    iexists _; iexact Ho

theorem bar_all (c : Dev nD) : iprop((bigSep Finset.univ fun p => signalOut c p) ∗ bigSep (Finset.univ.erase c) fun p => barPay c p)
    ⊢ (bigSep Finset.univ fun p => barPay c p : sProp 𝕄) := by
  rw [pick (fun p => signalOut c p) c, pick (fun p => barPay c p) c, show signalOut (F := F) c c = barPay c c from if_pos rfl]
  iintro ⟨⟨Hown, -⟩, H⟩
  isplitl [Hown]; · iexact Hown
  iexact H

/-- The wait for the seven other devices: their landing slots for `c` come with it. -/
theorem step_barrier {Q : α → sProp 𝕄} (c : Dev nD) {a d : ℕ} {k : PUnit → PR F α} :
    known X W K ⊢ iprop((bigSep Finset.univ fun p => signalOut c p) -∗ atPos ER (barCell c) 0 ∅ 0 -∗ cred (tallyAt (barCell c) () 7) -∗ owing c 8 a d
      -∗ ((bigSep Finset.univ fun p => barPay c p) -∗ semVal (barCell c) 0 -∗ owing c 8 a d -∗ runs c (k ⟨⟩) Q)
      -∗ runs c (.op (.semWait barS (BitVec.toNat 7#32)) k) Q) := by
  iintro #HK Hown Hat Hc Ho Hk
  iapply (wait_cell X W K c (.inl ()) (wpE_semWait_eq 𝒱₀ (c : Thread nD τ) none Set.univ) (expect_bar X W c).symm
    (mayWait (n := 1) le_rfl fun g hg => (due_pos hg).2.2.1 le_rfl)) $$ HK Hat Hc Ho
  iintro Hpay Hz Ho
  iapply Hk $$ [Hown Hpay] Hz Ho
  iapply (bar_all c)
  isplitl [Hown]; · iexact Hown
  rw [Finset.sdiff_empty]
  iexact Hpay

/-! ## Loads and stores -/

/-- The whole of a memref held. -/
abbrev held {sp : Space} {sh : Shape} {e : EltTy} (M : Memref sig .tc sp sh e) (c : Dev nD) (f : Buf (Elt F) (M.view.loc (c : Thread nD τ))) : sProp 𝕄 :=
  M.view.loc (c : Thread nD τ) ↦[M.view.set]{fullShare} f

section Access
variable {sp : CoreSpace} {sh : Shape} {e : EltTy} {size : Fin sh.rank → ℕ}

/-- What is read of a tile of a buffer given tile by tile. -/
theorem read_tile (b : Ref sig .tc) {size : Fin b.ty.shape.rank → ℕ} (T : Tiles b.ty.shape size) (s : Fin 8) (G : (s : Fin 8) → (T.rect s).shape.Idx → Elt F b.ty.elt) :
    ((Memref.whole b).access (T.rect s)).read (Elt F) (T.glue G) = G s := by
  funext x; exact T.glue_emb G s x

variable (M : Memref sig .tc sp sh e) (T : Tiles sh size)

/-- A load of a tile held. -/
theorem step_load {Q : α → sProp 𝕄} (c : Dev nD) (s : Fin 8) {f : Buf (Elt F) (M.view.loc (c : Thread nD τ))}
    {off : Fin sh.rank → ℕ} {inb : ∀ a, off a + size a ≤ sh.size a} (ho : off = T.off s) {hl : M.view.LoadsAt (Rect.unit off size inb).toLoadRect}
    {k : ((Rect.unit off size inb).shape.Idx → Elt F e) → PR F α} :
    piece M T c s f ⊢ iprop((piece M T c s f -∗ runs c (k ((M.access (T.rect s)).read (Elt F) f)) Q)
      -∗ runs c (.op (.load M (Rect.unit off size inb).toLoadRect hl) k) Q) := by
  subst ho
  exact wp_load_rect 𝒱₀ (c : Thread nD τ) none Set.univ (m := M) (r := T.rect s) (S := slotSet M T s) (f := f) (Finset.Subset.refl _)

/-- A store to a tile held. -/
theorem step_store {Q : α → sProp 𝕄} (c : Dev nD) (s : Fin 8) {f g : Buf (Elt F) (M.view.loc (c : Thread nD τ))}
    {off : Fin sh.rank → ℕ} {inb : ∀ a, off a + size a ≤ sh.size a} (ho : off = T.off s)
    {w : (Rect.unit off size inb).shape.Idx → Elt F e} (hw : w = (M.access (T.rect s)).read (Elt F) g)
    {hx : (M.access (Rect.unit off size inb)).Stores Finset.univ} {hm}
    {k : PUnit → PR F α} :
    piece M T c s f ⊢ iprop((piece M T c s g -∗ runs c (k ⟨⟩) Q)
      -∗ runs c (.op (.store M (Rect.unit off size inb) w Finset.univ hx hm) k) Q) := by
  subst ho
  rw [show piece M T c s g = (M.view.loc (c : Thread nD τ) ↦[slotSet M T s]{fullShare} (M.access (T.rect s)).write (Elt F) f w Finset.univ : sProp 𝕄) from
    pts_of_read (M.access (T.rect s)) c fullShare (by rw [View.read_write_univ, hw])]
  exact wp_store 𝒱₀ (c : Thread nD τ) none Set.univ (m := M) (r := T.rect s) (Mk := Finset.univ) (S := slotSet M T s) (f := f) (Finset.Subset.refl _)

/-- A tile is loaded, the value not used, and then stored. -/
theorem step_put {Q : α → sProp 𝕄} (c : Dev nD) (s : Fin 8) (g : Buf (Elt F) (M.view.loc (c : Thread nD τ)))
    {off : Fin sh.rank → ℕ} {inb inb' : ∀ a, off a + size a ≤ sh.size a} (ho : off = T.off s)
    {hl : M.view.LoadsAt (Rect.unit off size inb').toLoadRect}
    {w : (Rect.unit off size inb).shape.Idx → Elt F e} (hw : w = (M.access (T.rect s)).read (Elt F) g)
    {hx : (M.access (Rect.unit off size inb)).Stores Finset.univ} {hm}
    {k : PUnit → PR F α} :
    iprop(∃ f, piece M T c s f) ⊢ iprop((piece M T c s g -∗ runs c (k ⟨⟩) Q)
      -∗ runs c (.op (.load M (Rect.unit off size inb').toLoadRect hl) fun _ => .op (.store M (Rect.unit off size inb) w Finset.univ hx hm) k) Q) := by
  iintro ⟨%f, H⟩ Hk
  iapply (step_load M T c s ho) $$ H; iintro H
  iapply (step_store M T c s ho hw) $$ H; iexact Hk

end Access

/-- A device's operands: its rows of `x`, and the weights' columns of a step. -/
theorem step_x {Q : α → sProp 𝕄} (c : Dev nD) {inb} {hl} {k : Vec F S512x4096 .bf16 → PR F α} :
    held xM c (X c) ⊢ iprop((held xM c (X c) -∗ runs c (k (X c)) Q)
      -∗ runs c (.op (.load xM (Rect.unit (s := S512x4096) ![0, 0] S512x4096.size inb).toLoadRect hl) k) Q) := by
  have h := wp_load (Val := Elt F) (defs := defs₀) (Γ := PendingWaitsCtx.empty) 𝒱₀ (c : Thread nD τ) none Set.univ (m := xM) (S := xM.view.set) (q := fullShare) (f := X c) (k := k) (Q := Q)
    (r := (Rect.unit (s := S512x4096) ![0, 0] S512x4096.size inb).toLoadRect) (hl := hl) (by rw [View.set_whole]; exact Finset.subset_univ _)
  rwa [show xM.view.readAt (Elt F) (Rect.unit (s := S512x4096) ![0, 0] S512x4096.size inb).toLoadRect (X c) = X c from
    Memref.readAt_unit_zero (Elt F) cc0_stg0_0 (by funext a; fin_cases a <;> rfl) _ _] at h
theorem step_w {Q : α → sProp 𝕄} (c : Dev nD) (d : Fin 8) {w : BitVec 32} (hw : w = BitVec.ofNat 32 d.val) {inb} {hl} {k : Vec F S4096x256 .bf16 → PR F α} :
    held wM c (W c) ⊢ iprop((held wM c (W c) -∗ runs c (k (wd W c d)) Q)
      -∗ runs c (.op (.load wM (Rect.unit (s := S4096x2048) (k0_off1 c w) S4096x256.size inb).toLoadRect hl) k) Q) := by
  subst hw
  exact wp_load_rect 𝒱₀ (c : Thread nD τ) none Set.univ (m := wM) (r := Rect.unit (s := S4096x2048) (k0_off1 c (BitVec.ofNat 32 d.val)) S4096x256.size inb)
    (S := wM.view.set) (f := W c) (by rw [View.set_whole]; exact Finset.subset_univ _)

/-- The device's own maximum is written over the whole of its buffer. -/
theorem step_max {Q : α → sProp 𝕄} (c : Dev nD) {inb inb'} {hl} {w : Vec F S8x128 .f32} (hw : w = ownMaxBuf X W c) {hx hm} {k : PUnit → PR F α} :
    iprop(∃ f, held asM c f) ⊢ iprop((held asM c (ownMaxBuf X W c) -∗ runs c (k ⟨⟩) Q)
      -∗ runs c (.op (.load asM (Rect.unit (s := S8x128) ![0, 0] S8x128.size inb').toLoadRect hl) fun _ =>
          .op (.store asM (Rect.unit (s := S8x128) ![0, 0] S8x128.size inb) w Finset.univ hx hm) k) Q) := by
  subst hw
  iintro ⟨%f, H⟩ Hk
  iapply (wp_load 𝒱₀ (c : Thread nD τ) none Set.univ (m := asM) (S := asM.view.set) (by rw [View.set_whole]; exact Finset.subset_univ _)) $$ H
  iintro H
  iapply (wp_store 𝒱₀ (c : Thread nD τ) none Set.univ (m := asM) (r := Rect.unit (s := S8x128) ![0, 0] S8x128.size inb) (S := asM.view.set) (by rw [View.set_whole]; exact Finset.subset_univ _)) $$ H
  rw [show (asM.access (Rect.unit (s := S8x128) ![0, 0] S8x128.size inb)).write (Elt F) f (ownMaxBuf X W c) Finset.univ = ownMaxBuf X W c from
    Memref.write_access_unit_zero_univ (Elt F) cc0_scratch3 (by funext a; fin_cases a <;> rfl) _ _ _]
  iexact Hk

end Steps

end Cert.KernelProof
-- ==== Proof.Moves.lean ====
/- What the kernel does with the other devices: a maximum or a chunk sent, the maxima gathered, and a row block of the
   output written from the device's own chunk or from one received. -/
module

public import proofs.«01_k».proof.Proof.Steps

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x4096 .bf16) (W : Dev nD → Vec F S4096x2048 .bf16)
variable (K : Dev nD × KIx → ℕ) {α : Type}

/-! ## The slots and semaphores as the kernel names them -/

theorem chunk_at (M : Memref sig .tc .vmem S8x512x256 .fp8e4m3) {off : Fin 3 → ℕ} {s : Fin 8} (h : off = ![s.val, 0, 0]) {inb} :
    (M.slice (Rect.unit (s := S8x512x256) off S1x512x256.size inb) (fun _ => rfl)).squeeze S512x256 squeezes_S1x512x256_S512x256 = chunkOf M s := by
  subst h; rfl
theorem amax_at {off : Fin 3 → ℕ} {s : Fin 8} (h : off = ![s.val, 0, 0]) {inb} :
    (arM.slice (Rect.unit (s := S8x8x128) off S1x8x128.size inb) (fun _ => rfl)).squeeze S8x128 squeezes_S1x8x128_S8x128 = amaxOf s := by
  subst h; rfl

/-- The four arrays of copy semaphores. -/
def semsOf : Fin 4 → DmaSems sig S8 := ![cc0_scratch5, cc0_scratch6, cc0_scratch7, cc0_scratch8]
theorem sem_entry {n base : ℕ} {h : base + S8.numel ≤ n} {s : Fin 8} {inb} :
    (((SemArray.consecutive base S8 h).slice (Rect.unit (s := S8) ![s.val] S1.size inb)).squeeze S_ squeezes_S1_S_).sem.val = base + s.val := by
  show base + (S8.rowMajor ((Rect.unit (s := S8) ![s.val] S1.size inb).emb (Shape.reshapeEquiv squeezes_S1_S_.numel_eq fun i => i.elim0))).val = _
  generalize (Shape.reshapeEquiv squeezes_S1_S_.numel_eq fun i => i.elim0) = x
  have h0 : (x 0).val < 1 := (x 0).isLt
  rw [Shape.rowMajor_val_one]
  show base + (s.val + 1 * (x 0).val) = _
  omega
theorem sem_at (a : Fin 4) {off : Fin 1 → ℕ} {s : Fin 8} (h : off = ![s.val]) {inb} :
    (((semsOf a).slice (Rect.unit (s := S8) off S1.size inb)).squeeze S_ squeezes_S1_S_).sem = copyS (a, s) := by
  subst h
  refine Fin.ext ?_
  fin_cases a
  · exact sem_entry (n := 35) (h := hcc0_scratch5)
  · exact sem_entry (n := 35) (h := hcc0_scratch6)
  · exact sem_entry (n := 35) (h := hcc0_scratch7)
  · exact sem_entry (n := 35) (h := hcc0_scratch8)

/-! ## Chunks -/

theorem step_back (c : Dev nD) (d : Fin 8) : c + d - c = d := by revert c d; decide
theorem step_away (c : Dev nD) (d : Fin 8) (h : d ≠ 0) : c + d ≠ c := by revert c d; decide

/-- A slot as the copies name it is the slot's piece, -/
theorem pts_chunk (M : Memref sig .tc .vmem S8x512x256 .fp8e4m3) (c : Dev nD) (s : Fin 8) (f : Buf (Elt F) (M.view.loc (c : Thread nD τ))) :
    ((chunkOf M s).view.loc (c : Thread nD τ) ↦[(chunkOf M s).view.set]{fullShare} f : sProp 𝕄) = piece M qT c s f := by
  exact congrArg (fun S => (M.view.loc (c : Thread nD τ) ↦[S]{fullShare} f : sProp 𝕄)) (View.set_reshape _ _)
theorem pts_amax (c : Dev nD) (s : Fin 8) (f : Buf (Elt F) (arM.view.loc (c : Thread nD τ))) :
    ((amaxOf s).view.loc (c : Thread nD τ) ↦[(amaxOf s).view.set]{fullShare} f : sProp 𝕄) = piece arM aT c s f := by
  exact congrArg (fun S => (arM.view.loc (c : Thread nD τ) ↦[S]{fullShare} f : sProp 𝕄)) (View.set_reshape _ _)

/-- and a chunk sent lands as the receiver's contents have it. -/
theorem chunk_lands (c : Dev nD) (d : Fin 8) (f : Buf (Elt F) (rqM.view.loc ((c + d : Dev nD) : Thread nD τ))) :
    ((chunkOf rqM c).view.loc ((c + d : Dev nD) : Thread nD τ) ↦[(chunkOf rqM c).view.set]{fullShare}
        (chunkOf rqM c).view.write (Elt F) f ((chunkOf sqM d).view.read (Elt F) (sendBuf X W c)) Finset.univ : sProp 𝕄)
      = piece rqM qT (c + d) c (recvBuf X W (c + d)) := by
  rw [← pts_chunk rqM (c + d) c (recvBuf X W (c + d))]
  refine pts_of_read (chunkOf rqM c).view (c + d) fullShare ?_
  rw [View.read_write_univ]
  funext x
  have h₁ : (chunkOf sqM d).view.read (Elt F) (sendBuf X W c) x = qPay X W c d (Shape.reshapeEquiv squeezes_S1x512x256_S512x256.numel_eq x) :=
    qT.glue_emb (qPay X W c) d (Shape.reshapeEquiv squeezes_S1x512x256_S512x256.numel_eq x)
  have h₂ : (chunkOf rqM c).view.read (Elt F) (recvBuf X W (c + d)) x = qPay X W c (c + d - c) (Shape.reshapeEquiv squeezes_S1x512x256_S512x256.numel_eq x) :=
    qT.glue_emb (fun s => qPay X W s (c + d - s)) c (Shape.reshapeEquiv squeezes_S1x512x256_S512x256.numel_eq x)
  rw [h₁, h₂, step_back]

theorem max_lands (c p : Dev nD) (f : Buf (Elt F) (arM.view.loc (p : Thread nD τ))) :
    ((amaxOf c).view.loc (p : Thread nD τ) ↦[(amaxOf c).view.set]{fullShare}
        (amaxOf c).view.write (Elt F) f (asM.view.read (Elt F) (ownMaxBuf X W c)) Finset.univ : sProp 𝕄)
      = piece arM aT p c (allMaxBuf X W) := by
  rw [← pts_amax p c (allMaxBuf X W)]
  refine pts_of_read (amaxOf c).view p fullShare ?_
  rw [View.read_write_univ]
  funext x
  have h := aT.mem_of_emb c (Shape.reshapeEquiv squeezes_S1x8x128_S8x128.numel_eq x) 0
  show devMax X W c = devMax X W ((aT.rect c).emb (Shape.reshapeEquiv squeezes_S1x8x128_S8x128.numel_eq x) 0)
  refine congrArg (devMax X W) (Fin.ext ?_)
  have h₁ : c.val ≤ _ := h.1
  have h₂ : _ < c.val + 1 := h.2
  omega

/-! ## Copies to other devices -/

/-- What a copy from device `c`, counted at its cell `ak` and at `t`'s cell `bk`, is paid with. -/
def sendTok (c t : Dev nD) (ak bk : Fin 4 × Fin 8) : sProp 𝕄 := iprop(dutyTok ER (copyCell c ak) 0 0 ∗ dutyTok ER (copyCell t bk) 0 0)

theorem send_copy {Q : α → sProp 𝕄} (c t : Dev nD) (ak bk : Fin 4 × Fin 8) (hi : ¬ idle c ak) (hi' : ¬ idle t bk) (hw : worth bk.1 = worth ak.1)
    {sh : Shape} {e : EltTy} {src dst : Memref sig .tc .vmem sh e} (hN : dst.view.dmaCredit = worth ak.1) {b a d b' a' d' : ℕ}
    (hO : due c b a d = due c b' a' d' + tallyAt (copyCell t bk) () (worth ak.1)) {q : PosShare TreeShare}
    {fs : Buf (Elt F) (src.view.loc (c : Thread nD τ))} {fd : Buf (Elt F) (dst.view.loc (t : Thread nD τ))}
    (hs : (src.view.loc (c : Thread nD τ) ↦[src.view.set]{q} fs : sProp 𝕄) ⊢ copyPay X W c ak)
    (hd : (dst.view.loc (t : Thread nD τ) ↦[dst.view.set]{fullShare} (dst.view.write (Elt F) fd (src.view.read (Elt F) fs) Finset.univ) : sProp 𝕄) ⊢ copyPay X W t bk)
    {hsc : (dst : Memref sig (Dev.tc t : Thread nD τ).2.kind .vmem sh e).view.ref.isScScratch = false} {h₁ : src.view.WordExact} {h₂ : dst.view.WordExact}
    {hT : DmaTarget.Typed .vmem (.dma (copyS bk)) (.remote (Dev.tc t : Thread nD τ) dst (.dma (copyS ak)) hsc)} {k : PUnit → PR F α} :
    known X W K ⊢ iprop((src.view.loc (c : Thread nD τ) ↦[src.view.set]{q} fs) -∗ (dst.view.loc (t : Thread nD τ) ↦[dst.view.set]{fullShare} fd)
      -∗ sendTok c t ak bk -∗ owing c b a d
      -∗ (waitCred c ak -∗ owing c b' a' d' -∗ runs c (k ⟨⟩) Q)
      -∗ runs c (.op (.enqueueDma src (.remote (Dev.tc t : Thread nD τ) dst (.dma (copyS ak)) hsc) (.dma (copyS bk)) h₁ h₂ hT) k) Q) := by
  rw [show waitCred (F := F) c ak = cred (tallyAt (copyCell c ak) () (worth ak.1)) from if_neg hi]
  unfold owing sendTok
  iintro #HK Hs Hd ⟨Ht, Ht'⟩ ⟨%Ws, Ho⟩ Hk
  have hsend := Rounds.wp_send_pointsTo (defs := defs₀ (F := F)) (Γ := PendingWaitsCtx.empty) (Es := Set.univ) 𝒱₀ ER (plan X W) (c : Thread nD τ) none
    (κ₁ := K (c, .inr ak)) (κ₂ := K (t, .inr bk)) (c' := (t : Thread nD τ)) (src := src) (dst := dst)
    (sS := .dma (copyS ak)) (sem := .dma (copyS bk)) (hsc := hsc) (hsrc := h₁) (hdst := h₂) (hsem := hT) (k := k) (Q := Q)
    (r₁ := 0) (r₂ := 0) (d₁ := 0) (d₂ := 0) (q := q) (fs := fs) (fd := fd)
    (by rw [duties_copy X W c ak hi]; exact Finset.mem_singleton_self _) (by rw [duties_copy X W t bk hi']; exact Finset.mem_singleton_self _)
    () () (worth ak.1) hN (amount_copy X W c ak 0) ((amount_copy X W t bk 0).trans hw) (O₀ := due c b a d) (due c b' a' d')
    hO (W := Ws) (by rw [payload_copy]; exact hs) (by rw [payload_copy]; exact hd) (Topo.routes_tc ..)
  iapply hsend $$ [Hs Hd Ht Ht' Ho]
  · isplitr; · iapply (known_inv X W K (c, .inr ak)); iexact HK
    isplitr; · iapply (known_inv X W K (t, .inr bk)); iexact HK
    isplitl [Hs]; · iexact Hs
    isplitl [Hd]; · iexact Hd
    isplitl [Ho]; · iexact Ho
    isplitl [Ht]; · iexact Ht
    isplitr; · iapply (known_reached X W K (c, .inr ak)); iexact HK
    isplitl [Ht']; · iexact Ht'
    iapply (known_reached X W K (t, .inr bk)); iexact HK
  iintro ⟨Hc, Ho⟩
  iapply Hk $$ Hc
  iexists Ws; iexact Ho

/-- Device `c` sends its chunk of step `d` to device `c + d`. -/
theorem step_chunk {Q : α → sProp 𝕄} (c : Dev nD) (d : Fin 8) (n n' : ℕ) (hv : n = d.val ∧ n' = d.val + 1) (hd : d ≠ 0)
    {t : Dev nD} (ht : t = c + d) {sS sR : DmaSem sig} (hS : sS = copyS (0, d)) (hR : sR = copyS (1, c))
    {src dst : Memref sig .tc .vmem S512x256 .fp8e4m3} (hsrc : src = chunkOf sqM d) (hdst : dst = chunkOf rqM c)
    {hsc : (dst : Memref sig (Dev.tc t : Thread nD τ).2.kind .vmem S512x256 .fp8e4m3).view.ref.isScScratch = false} {h₁ : src.view.WordExact} {h₂ : dst.view.WordExact}
    {hT : DmaTarget.Typed .vmem (.dma sR) (.remote (Dev.tc t : Thread nD τ) dst (.dma sS) hsc)} {k : PUnit → PR F α} :
    known X W K ⊢ iprop(piece sqM qT c d (sendBuf X W c) -∗ (∃ f, piece rqM qT (c + d) c f)
      -∗ sendTok c (c + d) (0, d) (1, c) -∗ owing c 8 8 n
      -∗ (waitCred c (0, d) -∗ owing c 8 8 n' -∗ runs c (k ⟨⟩) Q)
      -∗ runs c (.op (.enqueueDma src (.remote (Dev.tc t : Thread nD τ) dst (.dma sS) hsc) (.dma sR) h₁ h₂ hT) k) Q) := by
  obtain ⟨rfl, rfl⟩ := hv
  subst ht hS hR hsrc hdst
  have hne : c + d ≠ c := step_away c d hd
  iintro #HK Hs ⟨%f, Hd⟩ Ht Ho Hk
  ihave Hs := (Entails.of_eq (pts_chunk sqM c d (sendBuf X W c)).symm) $$ Hs
  ihave Hd := (Entails.of_eq (pts_chunk rqM (c + d) c f).symm) $$ Hd
  have h := send_copy X W K (Q := Q) c (c + d) (0, d) (1, c) hd (Ne.symm hne) rfl (src := chunkOf sqM d) (dst := chunkOf rqM c) rfl
    (b := 8) (a := 8) (d := d.val) (b' := 8) (a' := 8) (d' := d.val + 1) (by rw [due_chunk, dueChunk, if_neg hd]; rfl)
    (q := fullShare) (fs := sendBuf X W c) (fd := f) (Entails.of_eq (pts_chunk sqM c d (sendBuf X W c))) (Entails.of_eq (chunk_lands X W c d f))
    (hsc := hsc) (h₁ := h₁) (h₂ := h₂) (hT := hT) (k := k)
  iapply h $$ HK Hs Hd Ht Ho Hk

/-- Device `c` sends its maximum to device `p`, -/
theorem send_max {Q : α → sProp 𝕄} (c p : Dev nD) (hp : p ≠ c) {d : ℕ}
    {t : Dev nD} (ht : t = p) {sS sR : DmaSem sig} (hS : sS = copyS (2, p)) (hR : sR = copyS (3, c))
    {dst : Memref sig .tc .vmem S8x128 .f32} (hdst : dst = amaxOf c)
    {hsc : (dst : Memref sig (Dev.tc t : Thread nD τ).2.kind .vmem S8x128 .f32).view.ref.isScScratch = false} {h₁ : asM.view.WordExact} {h₂ : dst.view.WordExact}
    {hT : DmaTarget.Typed .vmem (.dma sR) (.remote (Dev.tc t : Thread nD τ) dst (.dma sS) hsc)} {k : PUnit → PR F α} :
    known X W K ⊢ iprop(maxAt c (share p) (ownMaxBuf X W c) -∗ (∃ f, piece arM aT p c f) -∗ sendTok c p (2, p) (3, c) -∗ owing c 8 p.val d
      -∗ (waitCred c (2, p) -∗ owing c 8 (p.val + 1) d -∗ runs c (k ⟨⟩) Q)
      -∗ runs c (.op (.enqueueDma asM (.remote (Dev.tc t : Thread nD τ) dst (.dma sS) hsc) (.dma sR) h₁ h₂ hT) k) Q) := by
  subst ht hS hR hdst
  iintro #HK Hs ⟨%f, Hd⟩ Ht Ho Hk
  ihave Hd := (Entails.of_eq (pts_amax t c f).symm) $$ Hd
  have h := send_copy X W K (Q := Q) c t (2, t) (3, c) hp (Ne.symm hp) rfl (src := asM) (dst := amaxOf c) rfl
    (b := 8) (a := t.val) (d := d) (b' := 8) (a' := t.val + 1) (d' := d) (by rw [due_max, dueMax, if_neg hp]; rfl)
    (q := share t) (fs := ownMaxBuf X W c) (fd := f) (Entails.refl _) (Entails.of_eq (max_lands X W c t f))
    (hsc := hsc) (h₁ := h₁) (h₂ := h₂) (hT := hT) (k := k)
  iapply h $$ HK Hs Hd Ht Ho Hk

/-- if that is another one. The share of the maximum and the slot stay with the device where nothing is sent. -/
theorem step_send_max {Q : α → sProp 𝕄} (c p : Dev nD) (n n' : ℕ) (hv : n = p.val ∧ n' = p.val + 1) {d : ℕ} {b : Prop} [Decidable b] (hb : b ↔ p ≠ c)
    {t : b → Dev nD} (ht : ∀ h, t h = p) {sS sR : b → DmaSem sig} (hS : ∀ h, sS h = copyS (2, p)) (hR : ∀ h, sR h = copyS (3, c))
    {dst : b → Memref sig .tc .vmem S8x128 .f32} (hdst : ∀ h, dst h = amaxOf c)
    {hsc : ∀ h, (dst h : Memref sig (Dev.tc (t h) : Thread nD τ).2.kind .vmem S8x128 .f32).view.ref.isScScratch = false} {h₁ : b → asM.view.WordExact} {h₂ : ∀ h, (dst h).view.WordExact}
    {hT : ∀ h, DmaTarget.Typed .vmem (.dma (sR h)) (.remote (Dev.tc (t h) : Thread nD τ) (dst h) (.dma (sS h)) (hsc h))} {k : b → PUnit → PR F α}
    {B : PR F α} (hk : ∀ h, k h ⟨⟩ = B) :
    known X W K ⊢ iprop(maxAt c (share p) (ownMaxBuf X W c) -∗ (∃ f, piece arM aT p c f)
      -∗ (if p = c then iprop(emp) else sendTok c p (2, p) (3, c)) -∗ owing c 8 n d
      -∗ (waitCred c (2, p) -∗ (if p = c then maxAt c (share p) (ownMaxBuf X W c) else iprop(emp)) -∗ (if p = c then iprop(∃ f, piece arM aT c c f) else iprop(emp))
            -∗ owing c 8 n' d -∗ runs c B Q)
      -∗ runs c (if h : b then .op (.enqueueDma asM (.remote (Dev.tc (t h) : Thread nD τ) (dst h) (.dma (sS h)) (hsc h)) (.dma (sR h)) (h₁ h) (h₂ h) (hT h)) (k h) else B) Q) := by
  obtain ⟨rfl, rfl⟩ := hv
  by_cases hp : p = c
  · subst hp
    rw [dif_neg (fun h => hb.mp h rfl), if_pos rfl, if_pos rfl, if_pos rfl, show waitCred (F := F) p (2, p) = iprop(emp) from if_pos rfl]
    iintro #HK Hs Hd - Ho Hk
    iapply Hk $$ [] Hs Hd
    · iempintro
    unfold owing
    rw [due_max, dueMax, if_pos rfl, add_zero]; iexact Ho
  · have hbt : b := hb.mpr hp
    rw [dif_pos hbt, if_neg hp, if_neg hp, if_neg hp]
    iintro #HK Hs Hd Ht Ho Hk
    iapply (send_max X W K c p hp (ht hbt) (hS hbt) (hR hbt) (hdst hbt)) $$ HK Hs Hd Ht Ho
    iintro Hc Ho
    rw [hk]
    iapply Hk $$ Hc [] [] Ho
    · iempintro
    · iempintro

/-! ## The maxima gathered -/

/-- Slot `s` of the maxima: device `s`'s, unless that is the device itself, whose slot nothing writes. -/
def gotMax (c s : Dev nD) : sProp 𝕄 := iprop(∃ g, ⌜s ≠ c → g = allMaxBuf X W⌝ ∗ piece arM aT c s g)
theorem got_max (c s : Dev nD) : waitPay X W c (3, s) ⊢ iprop((if s = c then iprop(∃ f, piece arM aT c c f) else iprop(emp)) -∗ gotMax X W c s) := by
  unfold waitPay gotMax
  by_cases h : s = c
  · subst h
    rw [if_pos rfl]
    iintro - ⟨%f, H⟩
    iexists f
    isplitr; · ipureintro; exact fun h => absurd rfl h
    iexact H
  · rw [if_neg h, show (if idle c (3, s) then iprop(emp) else copyPay X W c (3, s)) = piece arM aT c s (allMaxBuf X W) from if_neg h]
    iintro H -
    iexists _
    isplitr; · ipureintro; exact fun _ => rfl
    iexact H

theorem step_load_max {Q : α → sProp 𝕄} (c s : Dev nD) {off : Fin 3 → ℕ} {inb} (ho : off = ![s.val, 0, 0]) {hl} {k : Vec F S1x1x1 .f32 → PR F α} :
    gotMax X W c s ⊢ iprop((∀ v, ⌜s ≠ c → v = fun _ => devMax X W s⌝ -∗ gotMax X W c s -∗ runs c (k v) Q)
      -∗ runs c (.op (.load arM (Rect.unit (s := S8x8x128) off S1x1x1.size inb).toLoadRect hl) k) Q) := by
  subst ho
  unfold gotMax
  iintro ⟨%g, %hg, H⟩ Hk
  have hsub : (arM.access (Rect.unit (s := S8x8x128) ![s.val, 0, 0] S1x1x1.size inb)).set ⊆ slotSet arM aT s := by
    have e : ∀ r : Rect S8x8x128, (arM.access r).set = arM.view.setOn r.set := fun r => View.set_slice _ _
    rw [slotSet, e, e]
    refine Finset.map_subset_map.mpr fun i hi => ?_
    rw [Rect.mem_set_unit] at hi ⊢
    intro a
    have := hi a
    fin_cases a
    · exact this
    · exact ⟨this.1, lt_of_lt_of_le this.2 (show (0 + 1 : ℕ) ≤ 0 + 8 by decide)⟩
    · exact ⟨this.1, lt_of_lt_of_le this.2 (show (0 + 1 : ℕ) ≤ 0 + 128 by decide)⟩
  iapply (wp_load_rect 𝒱₀ (c : Thread nD τ) none Set.univ (m := arM) (r := Rect.unit (s := S8x8x128) ![s.val, 0, 0] S1x1x1.size inb)
    (S := slotSet arM aT s) (f := g) hsub) $$ H
  iintro H
  iapply Hk $$ [] [H]
  · ipureintro
    intro h
    rw [hg h]
    funext x
    show devMax X W ((Rect.unit (s := S8x8x128) ![s.val, 0, 0] S1x1x1.size inb).emb x 0) = devMax X W s
    have h0 : (x 0).val < 1 := (x 0).isLt
    refine congrArg (devMax X W) (Fin.ext ?_)
    show s.val + 1 * (x 0).val = s.val
    omega
  iexists g
  isplitr; · ipureintro; exact hg
  iexact H

/-! ## Row blocks of the output -/

/-- Row block `s` once the device's own block is written. -/
def outHalf (c : Dev nD) (s : Fin 8) : sProp 𝕄 := if s = c then piece oM oT c s (outBuf X W c) else iprop(∃ f, piece oM oT c s f)

/-- The device's own block, from the product of step 0. -/
theorem step_own {Q : α → sProp 𝕄} (c : Dev nD) (s : Fin 8) {b : Prop} [Decidable b] (hb : b ↔ s = c)
    {off : Fin 2 → ℕ} (ho : off = oT.off s) {w : Vec F S1x512x256 .f32 → Vec F S512x256 .f32} (hw : ∀ y, w y = k0_pay39 (stepOf X W c) (invOf X W c) y)
    {i₁ i₂ i₃ l₁ l₂ hx hm} {k : b → Vec F S1x512x256 .f32 → PUnit → PR F α} {B : PR F α} (hk : ∀ h v, k h v ⟨⟩ = B) :
    iprop(∃ f, piece oM oT c s f) ⊢ iprop(piece yM qT c 0 (yBuf X W c) -∗ (outHalf X W c s -∗ piece yM qT c 0 (yBuf X W c) -∗ runs c B Q)
      -∗ runs c (if h : b then
            .op (.load yM (Rect.unit (s := S8x512x256) ![0, 0, 0] S1x512x256.size i₁).toLoadRect l₁) fun v =>
            .op (.load oM (Rect.unit (s := S4096x256) off S512x256.size i₂).toLoadRect l₂) fun _ =>
            .op (.store oM (Rect.unit (s := S4096x256) off S512x256.size i₃) (w v) Finset.univ hx hm) (k h v)
          else B) Q) := by
  unfold outHalf
  by_cases h : s = c
  · rw [dif_pos (hb.mpr h), if_pos h]
    iintro Hf Hy Hk
    iapply (step_load yM qT c 0 rfl) $$ Hy; iintro Hy
    have hput : w ((yM.access (qT.rect 0)).read (Elt F) (yBuf X W c)) = (oM.access (oT.rect s)).read (Elt F) (outBuf X W c) := by
      rw [hw]
      refine Eq.trans ?_ (read_tile cc0_stg2_0 oT s (outPay X W c)).symm
      rw [show (yM.access (qT.rect 0)).read (Elt F) (yBuf X W c) = yPay X W c 0 from read_tile cc0_scratch0 qT 0 (yPay X W c)]
      unfold outPay; rw [if_pos h]
    iapply (step_put oM oT c s (outBuf X W c) ho hput) $$ Hf
    iintro Ho
    rw [hk]
    iapply Hk $$ Ho Hy
  · rw [dif_neg (fun h' => h (hb.mp h')), if_neg h]
    iintro Hf Hy Hk
    iapply Hk $$ Hf Hy

theorem mayWait_end (c : Dev nD) (sm : SemLoc sig) : (levAts L lv : sProp 𝕄) ⊢ MayWait (c : Thread nD τ) sm () (due c 8 8 8) := by
  rw [due_end, MayWait_zero]; iintro -; iempintro

/-- Every other block, from the chunk received. -/
theorem step_recv {Q : α → sProp 𝕄} (c : Dev nD) (s : Fin 8) {b : Prop} [Decidable b] (hb : b ↔ s ≠ c)
    {sem : b → DmaSem sig} (hs : ∀ h, sem h = copyS (1, s)) {src dst : Memref sig .tc .vmem S512x256 .fp8e4m3}
    {h₁ : src.view.WordExact} {h₂ : dst.view.WordExact} (hd : dst = chunkOf rqM s)
    {off' : Fin 3 → ℕ} (ho' : off' = qT.off s)
    {off : Fin 2 → ℕ} (ho : off = oT.off s) {w : Vec F S1x512x256 .fp8e4m3 → Vec F S512x256 .f32} (hw : ∀ y, w y = k0_pay47 (stepOf X W c) y)
    {i₁ i₂ i₃ l₁ l₂ hx hm} {k : b → Vec F S1x512x256 .fp8e4m3 → PUnit → PR F α} {B : PR F α} (hk : ∀ h v, k h v ⟨⟩ = B) :
    known X W K ⊢ iprop(atPos ER (copyCell c (1, s)) 0 ∅ 0 -∗ waitCred c (1, s) -∗ outHalf X W c s -∗ owing c 8 8 8
      -∗ (waitPay X W c (1, s) -∗ semVal (copyCell c (1, s)) 0 -∗ piece oM oT c s (outBuf X W c) -∗ owing c 8 8 8 -∗ runs c B Q)
      -∗ runs c (if h : b then
            .op (.waitDma2 (sem h) src dst h₁ h₂) fun _ =>
            .op (.load rqM (Rect.unit (s := S8x512x256) off' S1x512x256.size i₁).toLoadRect l₁) fun v =>
            .op (.load oM (Rect.unit (s := S4096x256) off S512x256.size i₂).toLoadRect l₂) fun _ =>
            .op (.store oM (Rect.unit (s := S4096x256) off S512x256.size i₃) (w v) Finset.univ hx hm) (k h v)
          else B) Q) := by
  unfold outHalf waitPay
  by_cases h : s = c
  · rw [dif_neg (fun h' => hb.mp h' h), if_pos h, show (if idle c (1, s) then iprop(emp) else copyPay X W c (1, s)) = (iprop(emp) : sProp 𝕄) from if_pos h]
    iintro #HK Hat Hc Hf Ho Hk
    iapply (close_idle X W K c (1, s) h) $$ HK Hat
    iintro Hz
    iapply Hk $$ [] Hz Hf Ho
    iempintro
  · rw [dif_pos (hb.mpr h), if_neg h, show (if idle c (1, s) then iprop(emp) else copyPay X W c (1, s)) = piece rqM qT c s (recvBuf X W c) from if_neg h]
    iintro #HK Hat Hc Hf Ho Hk
    iapply (wait_copy X W K c (1, s) h (mayWait_end c _) (hs _) (by rw [hd]; rfl)) $$ HK Hat Hc Ho
    iintro Hp Hz Ho
    ihave Hp := (show copyPay X W c (1, s) ⊢ piece rqM qT c s (recvBuf X W c) from Entails.refl _) $$ Hp
    iapply (step_load rqM qT c s ho') $$ Hp; iintro Hp
    have hput : w ((rqM.access (qT.rect s)).read (Elt F) (recvBuf X W c)) = (oM.access (oT.rect s)).read (Elt F) (outBuf X W c) := by
      rw [hw]
      refine Eq.trans ?_ (read_tile cc0_stg2_0 oT s (outPay X W c)).symm
      rw [show (rqM.access (qT.rect s)).read (Elt F) (recvBuf X W c) = qPay X W s (c - s) from read_tile cc0_scratch2 qT s (fun s => qPay X W s (c - s))]
      unfold outPay; rw [if_neg h]
    iapply (step_put oM oT c s (outBuf X W c) ho hput) $$ Hf
    iintro Hout
    rw [hk]
    iapply Hk $$ Hp Hz Hout Ho

end Cert.KernelProof
-- ==== Proof.Products.lean ====
/- The first half of the kernel, part by part: the greeting, the eight products and their maxima, the maxima sent and gathered. -/
module

public import proofs.«01_k».proof.Proof.Moves

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x4096 .bf16) (W : Dev nD → Vec F S4096x2048 .bf16)
variable (K : Dev nD × KIx → ℕ)

/-- A part of the kernel at the kernel's own buffers and semaphores. -/
abbrev atBuffers {β : Sort*} (p : (a0 : Memref sig .tc .vmem S512x4096 .bf16) → a0.IsWhole → (a1 : Memref sig .tc .vmem S4096x2048 .bf16) → a1.IsWhole
    → (a2 : Memref sig .tc .vmem S4096x256 .f32) → a2.IsWhole → (a3 : Memref sig .tc .vmem S8x512x256 .f32) → a3.IsWhole
    → (a4 : Memref sig .tc .vmem S8x512x256 .fp8e4m3) → a4.IsWhole → (a5 : Memref sig .tc .vmem S8x512x256 .fp8e4m3) → a5.IsWhole
    → (a6 : Memref sig .tc .vmem S8x128 .f32) → a6.IsWhole → (a7 : Memref sig .tc .vmem S8x8x128 .f32) → a7.IsWhole
    → DmaSems sig S8 → DmaSems sig S8 → DmaSems sig S8 → DmaSems sig S8 → β) : β :=
  p xM (Memref.isWhole_whole _) wM (Memref.isWhole_whole _) oM (Memref.isWhole_whole _) yM (Memref.isWhole_whole _)
    sqM (Memref.isWhole_whole _) rqM (Memref.isWhole_whole _) asM (Memref.isWhole_whole _) arM (Memref.isWhole_whole _)
    cc0_scratch5 cc0_scratch6 cc0_scratch7 cc0_scratch8

theorem part1_runs {Q : _ → sProp 𝕄} (c : Dev nD) :
    known X W K ⊢ iprop((bigSep Finset.univ fun p => signalIn c p) -∗ owing c 0 0 1
      -∗ (∀ v, (bigSep Finset.univ fun p => signalOut c p) -∗ owing c 8 0 1 -∗ Q ⟨c, word c, SemArray.scalar (sig.barrier 0 rfl), v⟩)
      -∗ runs c (atBuffers (k0_part1 (F := F))) Q) := by
  rw [k0_part1_eq_skeleton]; unfold atBuffers k0_part1_skel
  rw [eight, eight]
  iintro #HK ⟨H0, H1, H2, H3, H4, H5, H6, H7⟩ Ho Hk
  iapply (step_device (k := _) c)
  iapply (step_signal X W K c 0 0 1 ⟨rfl, rfl⟩ (by revert c; decide) (fun _ => Fin.ext k0_dev1_eq) (fun _ => rfl)) $$ HK H0 Ho; iintro H0 Ho
  iapply (step_signal X W K c 1 1 2 ⟨rfl, rfl⟩ (by revert c; decide) (fun _ => Fin.ext k0_dev2_eq) (fun _ => rfl)) $$ HK H1 Ho; iintro H1 Ho
  iapply (step_signal X W K c 2 2 3 ⟨rfl, rfl⟩ (by revert c; decide) (fun _ => Fin.ext k0_dev3_eq) (fun _ => rfl)) $$ HK H2 Ho; iintro H2 Ho
  iapply (step_signal X W K c 3 3 4 ⟨rfl, rfl⟩ (by revert c; decide) (fun _ => Fin.ext k0_dev4_eq) (fun _ => rfl)) $$ HK H3 Ho; iintro H3 Ho
  iapply (step_signal X W K c 4 4 5 ⟨rfl, rfl⟩ (by revert c; decide) (fun _ => Fin.ext k0_dev5_eq) (fun _ => rfl)) $$ HK H4 Ho; iintro H4 Ho
  iapply (step_signal X W K c 5 5 6 ⟨rfl, rfl⟩ (by revert c; decide) (fun _ => Fin.ext k0_dev6_eq) (fun _ => rfl)) $$ HK H5 Ho; iintro H5 Ho
  iapply (step_signal X W K c 6 6 7 ⟨rfl, rfl⟩ (by revert c; decide) (fun _ => Fin.ext k0_dev7_eq) (fun _ => rfl)) $$ HK H6 Ho; iintro H6 Ho
  iapply (step_signal X W K c 7 7 8 ⟨rfl, rfl⟩ (by revert c; decide) (fun _ => Fin.ext k0_dev8_eq) (fun _ => rfl)) $$ HK H7 Ho; iintro H7 Ho
  iapply (step_end c _)
  iapply Hk $$ [H0 H1 H2 H3 H4 H5 H6 H7] Ho
  iframe H0 H1 H2 H3 H4 H5 H6 H7

/-! ## The products -/

/-- Slot `d` of the products, still to be written and written. -/
abbrev yTodo (c : Dev nD) (d : Fin 8) : sProp 𝕄 := iprop(∃ f, piece yM qT c d f)
abbrev yDone (c : Dev nD) (d : Fin 8) : sProp 𝕄 := piece yM qT c d (yBuf X W c)
theorem reads_y (c : Dev nD) (d : Fin 8) {w : Vec F S1x512x256 .f32} (h : w = yPay X W c d) :
    w = (yM.access (qT.rect d)).read (Elt F) (yBuf X W c) := h.trans (read_tile cc0_scratch0 qT d (yPay X W c)).symm

theorem part2_runs {Q : _ → sProp 𝕄} (c : Dev nD) (v2 v29 : BitVec 32) :
    known X W K ⊢ iprop((bigSep Finset.univ fun p => signalOut c p) -∗ atPos ER (barCell c) 0 ∅ 0 -∗ cred (tallyAt (barCell c) () 7) -∗ owing c 8 0 1
      -∗ held xM c (X c) -∗ held wM c (W c) -∗ yTodo c 1 -∗ yTodo c 2
      -∗ (∀ v, (bigSep Finset.univ fun p => barPay c p) -∗ semVal (barCell c) 0 -∗ owing c 8 0 1
        -∗ held xM c (X c) -∗ held wM c (W c) -∗ yDone X W c 1 -∗ yDone X W c 2 -∗ Q ⟨yMax X W c 1, yMax X W c 2, v⟩)
      -∗ runs c (atBuffers (k0_part2 (F := F)) c v2 (SemArray.scalar (sig.barrier 0 rfl)) v29) Q) := by
  rw [k0_part2_eq_skeleton]; unfold atBuffers k0_part2_skel
  iintro #HK Hs Hat Hc Ho Hx Hw H1 H2 Hk
  iapply (step_x X c) $$ Hx; iintro Hx
  iapply (step_w W c 1 rfl) $$ Hw; iintro Hw
  iapply (step_barrier X W K c) $$ HK Hs Hat Hc Ho; iintro Hb Hz Ho
  iapply (step_put yM qT c 1 (yBuf X W c) rfl (reads_y X W c 1 (by rfl))) $$ H1; iintro H1
  iapply (step_x X c) $$ Hx; iintro Hx
  iapply (step_w W c 2 rfl) $$ Hw; iintro Hw
  iapply (step_put yM qT c 2 (yBuf X W c) rfl (reads_y X W c 2 (by rfl))) $$ H2; iintro H2
  iapply (step_done c ⟨yMax X W c 1, yMax X W c 2, _⟩ (by rfl))
  iapply Hk $$ Hb Hz Ho Hx Hw H1 H2

theorem part3_runs {Q : _ → sProp 𝕄} (c : Dev nD) (v2 u : BitVec 32) :
    held xM c (X c) ⊢ iprop(held wM c (W c) -∗ yTodo c 3 -∗ yTodo c 4
      -∗ (∀ v, held xM c (X c) -∗ held wM c (W c) -∗ yDone X W c 3 -∗ yDone X W c 4 -∗ Q ⟨yMax X W c 3, yMax X W c 4, v⟩)
      -∗ runs c (atBuffers (k0_part3 (F := F)) c v2 u) Q) := by
  rw [k0_part3_eq_skeleton]; unfold atBuffers k0_part3_skel
  iintro Hx Hw H1 H2 Hk
  iapply (step_x X c) $$ Hx; iintro Hx
  iapply (step_w W c 3 rfl) $$ Hw; iintro Hw
  iapply (step_put yM qT c 3 (yBuf X W c) rfl (reads_y X W c 3 (by rfl))) $$ H1; iintro H1
  iapply (step_x X c) $$ Hx; iintro Hx
  iapply (step_w W c 4 rfl) $$ Hw; iintro Hw
  iapply (step_put yM qT c 4 (yBuf X W c) rfl (reads_y X W c 4 (by rfl))) $$ H2; iintro H2
  iapply (step_done c ⟨yMax X W c 3, yMax X W c 4, _⟩ (by rfl))
  iapply Hk $$ Hx Hw H1 H2

theorem part4_runs {Q : _ → sProp 𝕄} (c : Dev nD) (v2 u : BitVec 32) :
    held xM c (X c) ⊢ iprop(held wM c (W c) -∗ yTodo c 5 -∗ yTodo c 6
      -∗ (∀ v, held xM c (X c) -∗ held wM c (W c) -∗ yDone X W c 5 -∗ yDone X W c 6 -∗ Q ⟨yMax X W c 5, yMax X W c 6, v, k0_pay19 (X c)⟩)
      -∗ runs c (atBuffers (k0_part4 (F := F)) c v2 u) Q) := by
  rw [k0_part4_eq_skeleton]; unfold atBuffers k0_part4_skel
  iintro Hx Hw H1 H2 Hk
  iapply (step_x X c) $$ Hx; iintro Hx
  iapply (step_w W c 5 rfl) $$ Hw; iintro Hw
  iapply (step_put yM qT c 5 (yBuf X W c) rfl (reads_y X W c 5 (by rfl))) $$ H1; iintro H1
  iapply (step_x X c) $$ Hx; iintro Hx
  iapply (step_w W c 6 rfl) $$ Hw; iintro Hw
  iapply (step_put yM qT c 6 (yBuf X W c) rfl (reads_y X W c 6 (by rfl))) $$ H2; iintro H2
  iapply (step_x X c) $$ Hx; iintro Hx
  iapply (step_done c ⟨yMax X W c 5, yMax X W c 6, _, _⟩ (by rfl))
  iapply Hk $$ Hx Hw H1 H2

theorem part5_runs {Q : _ → sProp 𝕄} (c : Dev nD) (v2 u : BitVec 32) :
    held xM c (X c) ⊢ iprop(held wM c (W c) -∗ yTodo c 7 -∗ yTodo c 0
      -∗ (∀ v, ⌜k0_pay26 v = ownMaxBuf X W c⌝ -∗ held xM c (X c) -∗ held wM c (W c) -∗ yDone X W c 7 -∗ yDone X W c 0 -∗ Q ⟨devMax X W c, v⟩)
      -∗ runs c (atBuffers (k0_part5 (F := F)) c v2 (yMax X W c 1) (yMax X W c 2) (yMax X W c 3) (yMax X W c 4) (yMax X W c 5) (yMax X W c 6) u (k0_pay19 (X c))) Q) := by
  rw [k0_part5_eq_skeleton]; unfold atBuffers k0_part5_skel
  iintro Hx Hw H1 H2 Hk
  iapply (step_w W c 7 rfl) $$ Hw; iintro Hw
  iapply (step_put yM qT c 7 (yBuf X W c) rfl (reads_y X W c 7 (by rfl))) $$ H1; iintro H1
  iapply (step_x X c) $$ Hx; iintro Hx
  iapply (step_w W c 0 rfl) $$ Hw; iintro Hw
  iapply (step_put yM qT c 0 (yBuf X W c) rfl (reads_y X W c 0 (by rfl))) $$ H2; iintro H2
  iapply (step_done c ⟨devMax X W c, _⟩ (by rfl))
  iapply Hk $$ [] Hx Hw H1 H2
  ipureintro; rfl

end Cert.KernelProof
-- ==== Proof.Maxima.lean ====
/- The maxima: each device sends its own to the others, waits for theirs, and takes the largest of the eight. -/
module

public import proofs.«01_k».proof.Proof.Products

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x4096 .bf16) (W : Dev nD → Vec F S4096x2048 .bf16)
variable (K : Dev nD × KIx → ℕ)

/-! ## Sending -/

/-- What the sending of a maximum to device `p` takes besides the maximum, and what comes back of it. -/
def maxTok (c p : Dev nD) : sProp 𝕄 := if p = c then iprop(emp) else sendTok c p (2, p) (3, c)
def maxSend (c p : Dev nD) : sProp 𝕄 := iprop((∃ f, piece arM aT p c f) ∗ maxTok c p)
def keptShare (c p : Dev nD) : sProp 𝕄 := if p = c then maxAt c (share p) (ownMaxBuf X W c) else iprop(emp)
def keptSlot (c p : Dev nD) : sProp 𝕄 := if p = c then iprop(∃ f, piece arM aT c c f) else iprop(emp)
def maxSent (c p : Dev nD) : sProp 𝕄 := iprop(waitCred c (2, p) ∗ keptShare X W c p ∗ keptSlot c p)

theorem part6_runs {Q : _ → sProp 𝕄} (c : Dev nD) (v2 : BitVec 32) (v : FVec F S8x128 .f32) (hv : k0_pay26 v = ownMaxBuf X W c) :
    known X W K ⊢ iprop((∃ f, held asM c f) -∗ (bigSep Finset.univ fun p => maxSend c p) -∗ owing c 8 0 1
      -∗ (maxAt c (Transfers.shareDrop fullShare 8) (ownMaxBuf X W c) -∗ (bigSep Finset.univ fun p => maxSent X W c p) -∗ owing c 8 8 1 -∗ Q ⟨⟩)
      -∗ runs c (atBuffers (k0_part6 (F := F)) c v2 v) Q) := by
  rw [k0_part6_eq_skeleton]; unfold atBuffers k0_part6_skel
  rw [eight, eight]
  unfold maxSend maxSent maxTok keptShare keptSlot
  iintro #HK Hm ⟨⟨D0, T0⟩, ⟨D1, T1⟩, ⟨D2, T2⟩, ⟨D3, T3⟩, ⟨D4, T4⟩, ⟨D5, T5⟩, ⟨D6, T6⟩, ⟨D7, T7⟩⟩ Ho Hk
  iapply (step_max X W c hv) $$ Hm; iintro Hm
  ihave Hm := (Transfers.pointsTo_toks_split fullShare 8) $$ Hm
  icases Hm with ⟨Hr, Hm⟩
  ihave Hm := (Entails.of_eq (eight (fun i => maxAt c (share i) (ownMaxBuf X W c)))) $$ Hm
  icases Hm with ⟨M0, M1, M2, M3, M4, M5, M6, M7⟩
  iapply (step_send_max X W K c 0 0 1 ⟨rfl, rfl⟩ (by clear hv; revert c; decide) (fun _ => Fin.ext k0_dev9_eq) (fun _ => sem_at 2 rfl) (fun h => sem_at 3 (k0_off2_eq c))
    (fun h => amax_at (k0_off3_eq c)) (fun _ => rfl)) $$ HK M0 D0 T0 Ho; iintro C0 M0 D0 Ho
  iapply (step_send_max X W K c 1 1 2 ⟨rfl, rfl⟩ (by clear hv; revert c; decide) (fun _ => Fin.ext k0_dev10_eq) (fun _ => sem_at 2 rfl) (fun h => sem_at 3 (k0_off4_eq c))
    (fun h => amax_at (k0_off5_eq c)) (fun _ => rfl)) $$ HK M1 D1 T1 Ho; iintro C1 M1 D1 Ho
  iapply (step_send_max X W K c 2 2 3 ⟨rfl, rfl⟩ (by clear hv; revert c; decide) (fun _ => Fin.ext k0_dev11_eq) (fun _ => sem_at 2 rfl) (fun h => sem_at 3 (k0_off6_eq c))
    (fun h => amax_at (k0_off7_eq c)) (fun _ => rfl)) $$ HK M2 D2 T2 Ho; iintro C2 M2 D2 Ho
  iapply (step_send_max X W K c 3 3 4 ⟨rfl, rfl⟩ (by clear hv; revert c; decide) (fun _ => Fin.ext k0_dev12_eq) (fun _ => sem_at 2 rfl) (fun h => sem_at 3 (k0_off8_eq c))
    (fun h => amax_at (k0_off9_eq c)) (fun _ => rfl)) $$ HK M3 D3 T3 Ho; iintro C3 M3 D3 Ho
  iapply (step_send_max X W K c 4 4 5 ⟨rfl, rfl⟩ (by clear hv; revert c; decide) (fun _ => Fin.ext k0_dev13_eq) (fun _ => sem_at 2 rfl) (fun h => sem_at 3 (k0_off10_eq c))
    (fun h => amax_at (k0_off11_eq c)) (fun _ => rfl)) $$ HK M4 D4 T4 Ho; iintro C4 M4 D4 Ho
  iapply (step_send_max X W K c 5 5 6 ⟨rfl, rfl⟩ (by clear hv; revert c; decide) (fun _ => Fin.ext k0_dev14_eq) (fun _ => sem_at 2 rfl) (fun h => sem_at 3 (k0_off12_eq c))
    (fun h => amax_at (k0_off13_eq c)) (fun _ => rfl)) $$ HK M5 D5 T5 Ho; iintro C5 M5 D5 Ho
  iapply (step_send_max X W K c 6 6 7 ⟨rfl, rfl⟩ (by clear hv; revert c; decide) (fun _ => Fin.ext k0_dev15_eq) (fun _ => sem_at 2 rfl) (fun h => sem_at 3 (k0_off14_eq c))
    (fun h => amax_at (k0_off15_eq c)) (fun _ => rfl)) $$ HK M6 D6 T6 Ho; iintro C6 M6 D6 Ho
  iapply (step_send_max X W K c 7 7 8 ⟨rfl, rfl⟩ (by clear hv; revert c; decide) (fun _ => Fin.ext k0_dev16_eq) (fun _ => sem_at 2 rfl) (fun h => sem_at 3 (k0_off16_eq c))
    (fun h => amax_at (k0_off17_eq c)) (fun _ => rfl)) $$ HK M7 D7 T7 Ho; iintro C7 M7 D7 Ho
  iapply (step_done c ⟨⟩ (by rfl))
  iapply Hk $$ Hr [C0 M0 D0 C1 M1 D1 C2 M2 D2 C3 M3 D3 C4 M4 D4 C5 M5 D5 C6 M6 D6 C7 M7 D7] Ho
  iframe C0 M0 D0 C1 M1 D1 C2 M2 D2 C3 M3 D3 C4 M4 D4 C5 M5 D5 C6 M6 D6 C7 M7 D7

/-! ## Gathering -/

/-- What a wait at a copy semaphore takes and what it gives. -/
def waitIn (c : Dev nD) (ak : Fin 4 × Fin 8) : sProp 𝕄 := iprop(atPos ER (copyCell c ak) 0 ∅ 0 ∗ waitCred c ak)
def waitOut (c : Dev nD) (ak : Fin 4 × Fin 8) : sProp 𝕄 := iprop(waitPay X W c ak ∗ semVal (copyCell c ak) 0)
/-- The same for device `s`'s maximum, with the slot where it lies. -/
def maxIn (c s : Dev nD) : sProp 𝕄 := iprop(waitIn c (3, s) ∗ keptSlot c s)
def maxOut (c s : Dev nD) : sProp 𝕄 := iprop(gotMax X W c s ∗ semVal (copyCell c (3, s)) 0)

theorem step_gather {α : Type} {Q : α → sProp 𝕄} (c s : Dev nD) {t : Prop} [Decidable t] (ht : t ↔ s ≠ c) {sem : t → DmaSem sig} (hs : ∀ h, sem h = copyS (3, s))
    {dst : Memref sig .tc .vmem S8x128 .f32} {h₁ : asM.view.WordExact} {h₂ : dst.view.WordExact} (hd : dst = amaxOf s) {k : t → PUnit → PR F α} {B : PR F α} (hk : ∀ h, k h ⟨⟩ = B) :
    known X W K ⊢ iprop(maxIn c s -∗ owing c 8 8 1 -∗ (maxOut X W c s -∗ owing c 8 8 1 -∗ runs c B Q)
      -∗ runs c (if h : t then .op (.waitDma2 (sem h) asM dst h₁ h₂) (k h) else B) Q) := by
  unfold maxIn maxOut waitIn keptSlot
  iintro #HK ⟨⟨Hat, Hc⟩, Hown⟩ Ho Hk
  iapply (step_wait X W K c (3, s) ht (mayWait (n := 2) (by rw [lv_max]) (fun g hg => (due_pos hg).2.2.2 le_rfl le_rfl)) hs (fun _ => by rw [hd]; rfl) hk) $$ HK Hat Hc Ho
  iintro Hp Hz Ho
  iapply Hk $$ [Hp Hown Hz] Ho
  isplitr [Hz]
  · iapply (got_max X W c s) $$ Hp Hown
  · iexact Hz
theorem step_read_max {α : Type} {Q : α → sProp 𝕄} (c s : Dev nD) {off : Fin 3 → ℕ} {inb} (ho : off = ![s.val, 0, 0]) {hl} {k : Vec F S1x1x1 .f32 → PR F α} :
    maxOut X W c s ⊢ iprop((∀ v, ⌜s ≠ c → v = fun _ => devMax X W s⌝ -∗ maxOut X W c s -∗ runs c (k v) Q)
      -∗ runs c (.op (.load arM (Rect.unit (s := S8x8x128) off S1x1x1.size inb).toLoadRect hl) k) Q) := by
  unfold maxOut
  iintro ⟨Hg, Hz⟩ Hk
  iapply (step_load_max X W c s ho) $$ Hg
  iintro %v %hv Hg
  iapply Hk $$ [] [Hg Hz]
  · ipureintro; exact hv
  · iframe Hg Hz

theorem part7_runs {Q : _ → sProp 𝕄} (c : Dev nD) :
    known X W K ⊢ iprop(maxIn c 0 -∗ maxIn c 1 -∗ maxIn c 2 -∗ maxIn c 3 -∗ maxIn c 4 -∗ maxIn c 5 -∗ owing c 8 8 1
      -∗ (maxOut X W c 0 -∗ maxOut X W c 1 -∗ maxOut X W c 2 -∗ maxOut X W c 3 -∗ maxOut X W c 4 -∗ maxOut X W c 5 -∗ owing c 8 8 1
        -∗ Q (Scalar.extui (Scalar.cmpi .ne (word c) 6#32)))
      -∗ runs c (atBuffers (k0_part7 (F := F)) (word c)) Q) := by
  rw [k0_part7_eq_skeleton]; unfold atBuffers k0_part7_skel
  iintro #HK H0 H1 H2 H3 H4 H5 Ho Hk
  iapply (step_gather X W K c 0 (by revert c; decide) (fun _ => sem_at 3 rfl) (amax_at rfl) (fun _ => rfl)) $$ HK H0 Ho; iintro H0 Ho
  iapply (step_gather X W K c 1 (by revert c; decide) (fun _ => sem_at 3 rfl) (amax_at rfl) (fun _ => rfl)) $$ HK H1 Ho; iintro H1 Ho
  iapply (step_gather X W K c 2 (by revert c; decide) (fun _ => sem_at 3 rfl) (amax_at rfl) (fun _ => rfl)) $$ HK H2 Ho; iintro H2 Ho
  iapply (step_gather X W K c 3 (by revert c; decide) (fun _ => sem_at 3 rfl) (amax_at rfl) (fun _ => rfl)) $$ HK H3 Ho; iintro H3 Ho
  iapply (step_gather X W K c 4 (by revert c; decide) (fun _ => sem_at 3 rfl) (amax_at rfl) (fun _ => rfl)) $$ HK H4 Ho; iintro H4 Ho
  iapply (step_gather X W K c 5 (by revert c; decide) (fun _ => sem_at 3 rfl) (amax_at rfl) (fun _ => rfl)) $$ HK H5 Ho; iintro H5 Ho
  iapply (step_done c (Scalar.extui (Scalar.cmpi .ne (word c) 6#32)) (by rfl))
  iapply Hk $$ H0 H1 H2 H3 H4 H5 Ho

/-! ## The largest of the eight -/

theorem own_slot (c s : Dev nD) {w : BitVec 32} (hw : w = BitVec.ofNat 32 s.val) {v : Vec F S1x1x1 .f32} (h : s ≠ c → v = fun _ => devMax X W s) {hp} :
    Scalar.select (Scalar.cmpi .eq (word c) w) (devMax X W c) (extractAt ![0, 0, 0] v hp) = devMax X W s := by
  subst hw
  by_cases hs : s = c
  · subst hs
    have e : Scalar.cmpi .eq (word s) (BitVec.ofNat 32 s.val) = 1#1 := by clear h hp; revert s; decide
    rw [e]; rfl
  · have e : Scalar.cmpi .eq (word c) (BitVec.ofNat 32 s.val) = 0#1 := by clear h hp; revert c s; decide
    rw [e, h hs]; rfl

/-- The largest of a device's own and the first five; and of all. -/
def maxFive (c : Dev nD) : F .f32 := Scalar.maximumf (Scalar.maximumf (Scalar.maximumf (Scalar.maximumf (Scalar.maximumf (devMax X W c)
  (devMax X W 0)) (devMax X W 1)) (devMax X W 2)) (devMax X W 3)) (devMax X W 4)
def maxEight (c : Dev nD) : F .f32 := Scalar.maximumf (Scalar.maximumf (Scalar.maximumf (maxFive X W c) (devMax X W 5)) (devMax X W 6)) (devMax X W 7)

theorem max_five (c : Dev nD) {v0 v1 v2 v3 v4 : Vec F S1x1x1 .f32} (h0 : 0 ≠ c → v0 = fun _ => devMax X W 0) (h1 : 1 ≠ c → v1 = fun _ => devMax X W 1)
    (h2 : 2 ≠ c → v2 = fun _ => devMax X W 2) (h3 : 3 ≠ c → v3 = fun _ => devMax X W 3) (h4 : 4 ≠ c → v4 = fun _ => devMax X W 4) :
    k0_pay27 (word c) (devMax X W c) v0 v1 v2 v3 v4 = maxFive X W c := by
  unfold k0_pay27
  dsimp only
  rw [own_slot X W c 0 (w := 0#32) rfl h0, own_slot X W c 1 (w := 1#32) rfl h1, own_slot X W c 2 (w := 2#32) rfl h2, own_slot X W c 3 (w := 3#32) rfl h3, own_slot X W c 4 (w := 4#32) rfl h4]
  rfl
theorem max_eight (c : Dev nD) {v5 v6 v7 : Vec F S1x1x1 .f32} (h5 : 5 ≠ c → v5 = fun _ => devMax X W 5)
    (h6 : 6 ≠ c → v6 = fun _ => devMax X W 6) (h7 : 7 ≠ c → v7 = fun _ => devMax X W 7) :
    k0_pay28 (word c) (devMax X W c) (maxFive X W c) (Scalar.cmpi .eq (word c) 5#32) v5 v6 v7 = maxEight X W c := by
  unfold k0_pay28
  dsimp only
  rw [own_slot X W c 5 (w := 5#32) rfl h5, own_slot X W c 6 (w := 6#32) rfl h6, own_slot X W c 7 (w := 7#32) rfl h7]
  rfl
theorem allMax_eq (c : Dev nD) : allMax X W c = maxEight X W c := by
  unfold allMax
  rw [max_five X W c (fun _ => rfl) (fun _ => rfl) (fun _ => rfl) (fun _ => rfl) (fun _ => rfl),
    max_eight X W c (fun _ => rfl) (fun _ => rfl) (fun _ => rfl)]

/-! ## Chunks quantised -/

/-- Slot `d` of the chunks to send, still to be written and written. -/
abbrev qTodo (c : Dev nD) (d : Fin 8) : sProp 𝕄 := iprop(∃ f, piece sqM qT c d f)
abbrev qDone (c : Dev nD) (d : Fin 8) : sProp 𝕄 := piece sqM qT c d (sendBuf X W c)
theorem reads_q (c : Dev nD) (d : Fin 8) {w : Vec F S1x512x256 .fp8e4m3} (h : w = qPay X W c d) :
    w = (sqM.access (qT.rect d)).read (Elt F) (sendBuf X W c) := h.trans (read_tile cc0_scratch1 qT d (qPay X W c)).symm
theorem step_y {α : Type} {Q : α → sProp 𝕄} (c : Dev nD) (d : Fin 8) {off : Fin 3 → ℕ} {inb} (ho : off = ![d.val, 0, 0]) {hl} {k : Vec F S1x512x256 .f32 → PR F α} :
    yDone X W c d ⊢ iprop((yDone X W c d -∗ runs c (k (yPay X W c d)) Q)
      -∗ runs c (.op (.load yM (Rect.unit (s := S8x512x256) off S1x512x256.size inb).toLoadRect hl) k) Q) := by
  have h := step_load (Q := Q) yM qT c d (f := yBuf X W c) ho (inb := inb) (hl := hl) (k := k)
  rwa [show (yM.access (qT.rect d)).read (Elt F) (yBuf X W c) = yPay X W c d from read_tile cc0_scratch0 qT d (yPay X W c)] at h

theorem part8_runs {Q : _ → sProp 𝕄} (c : Dev nD) :
    known X W K ⊢ iprop(maxIn c 6 -∗ maxIn c 7 -∗ maxOut X W c 0 -∗ maxOut X W c 1 -∗ maxOut X W c 2 -∗ maxOut X W c 3 -∗ maxOut X W c 4 -∗ owing c 8 8 1
      -∗ (maxOut X W c 6 -∗ maxOut X W c 7 -∗ maxOut X W c 0 -∗ maxOut X W c 1 -∗ maxOut X W c 2 -∗ maxOut X W c 3 -∗ maxOut X W c 4 -∗ owing c 8 8 1
        -∗ Q ⟨maxFive X W c, Scalar.cmpi .eq (word c) 5#32⟩)
      -∗ runs c (atBuffers (k0_part8 (F := F)) (word c) (devMax X W c) (Scalar.extui (Scalar.cmpi .ne (word c) 6#32))) Q) := by
  rw [k0_part8_eq_skeleton]; unfold atBuffers k0_part8_skel
  iintro #HK H6 H7 H0 H1 H2 H3 H4 Ho Hk
  iapply (step_gather X W K c 6 (by revert c; decide) (fun _ => sem_at 3 rfl) (amax_at rfl) (fun _ => rfl)) $$ HK H6 Ho; iintro H6 Ho
  iapply (step_gather X W K c 7 (by revert c; decide) (fun _ => sem_at 3 rfl) (amax_at rfl) (fun _ => rfl)) $$ HK H7 Ho; iintro H7 Ho
  iapply (step_read_max X W c 0 rfl) $$ H0; iintro %v0 %h0 H0
  iapply (step_read_max X W c 1 rfl) $$ H1; iintro %v1 %h1 H1
  iapply (step_read_max X W c 2 rfl) $$ H2; iintro %v2 %h2 H2
  iapply (step_read_max X W c 3 rfl) $$ H3; iintro %v3 %h3 H3
  iapply (step_read_max X W c 4 rfl) $$ H4; iintro %v4 %h4 H4
  iapply (step_done c ⟨maxFive X W c, Scalar.cmpi .eq (word c) 5#32⟩ (by rw [← max_five X W c h0 h1 h2 h3 h4]; rfl))
  iapply Hk $$ H6 H7 H0 H1 H2 H3 H4 Ho

theorem part9_runs {Q : _ → sProp 𝕄} (c : Dev nD) :
    maxOut X W c 5 ⊢ iprop(maxOut X W c 6 -∗ maxOut X W c 7 -∗ yDone X W c 1 -∗ qTodo c 1
      -∗ (maxOut X W c 5 -∗ maxOut X W c 6 -∗ maxOut X W c 7 -∗ yDone X W c 1 -∗ qDone X W c 1 -∗ Q ⟨stepOf X W c, invOf X W c⟩)
      -∗ runs c (atBuffers (k0_part9 (F := F)) (word c) (devMax X W c) (maxFive X W c) (Scalar.cmpi .eq (word c) 5#32)) Q) := by
  rw [k0_part9_eq_skeleton]; unfold atBuffers k0_part9_skel
  iintro H5 H6 H7 Hy Hq Hk
  iapply (step_read_max X W c 5 rfl) $$ H5; iintro %v5 %h5 H5
  iapply (step_read_max X W c 6 rfl) $$ H6; iintro %v6 %h6 H6
  iapply (step_read_max X W c 7 rfl) $$ H7; iintro %v7 %h7 H7
  have hm := (max_eight X W c h5 h6 h7).trans (allMax_eq X W c).symm
  have hi : k0_pay30 (word c) (devMax X W c) (maxFive X W c) (Scalar.cmpi .eq (word c) 5#32) v5 v6 v7 = invOf X W c := by
    unfold k0_pay30; rw [hm]; rfl
  have hq : ∀ y, k0_pay31 (word c) (devMax X W c) (maxFive X W c) (Scalar.cmpi .eq (word c) 5#32) v5 v6 v7 y = k0_pay32 (invOf X W c) y := fun y => by
    unfold k0_pay31; rw [hi]; rfl
  iapply (step_y X W c 1 rfl) $$ Hy; iintro Hy
  iapply (step_put sqM qT c 1 (sendBuf X W c) rfl (reads_q X W c 1 (hq _))) $$ Hq; iintro Hq
  iapply (step_done c ⟨stepOf X W c, invOf X W c⟩ (by rw [← hi, stepOf, ← hm]; rfl))
  iapply Hk $$ H5 H6 H7 Hy Hq

end Cert.KernelProof
-- ==== Proof.Chunks.lean ====
/- The second half of the kernel, part by part: the chunks sent, the output written from those received, and the waits for what was sent. -/
module

public import proofs.«01_k».proof.Proof.Maxima

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x4096 .bf16) (W : Dev nD → Vec F S4096x2048 .bf16)
variable (K : Dev nD × KIx → ℕ)

/-! ## Sending -/

/-- What the sending of the chunk of step `d` takes besides the chunk. -/
def chunkTok (c : Dev nD) (d : Fin 8) : sProp 𝕄 := if d = 0 then iprop(emp) else sendTok c (c + d) (0, d) (1, c)
def chunkSend (c : Dev nD) (d : Fin 8) : sProp 𝕄 := iprop((∃ f, piece rqM qT (c + d) c f) ∗ chunkTok c d)

theorem step_send_chunk {α : Type} {Q : α → sProp 𝕄} (c : Dev nD) (d : Fin 8) (n n' : ℕ) (hv : n = d.val ∧ n' = d.val + 1) (hd : d ≠ 0)
    {t : Dev nD} (ht : t = c + d) {sS sR : DmaSem sig} (hS : sS = copyS (0, d)) (hR : sR = copyS (1, c))
    {src dst : Memref sig .tc .vmem S512x256 .fp8e4m3} (hsrc : src = chunkOf sqM d) (hdst : dst = chunkOf rqM c)
    {hsc : (dst : Memref sig (Dev.tc t : Thread nD τ).2.kind .vmem S512x256 .fp8e4m3).view.ref.isScScratch = false} {h₁ : src.view.WordExact} {h₂ : dst.view.WordExact}
    {hT : DmaTarget.Typed .vmem (.dma sR) (.remote (Dev.tc t : Thread nD τ) dst (.dma sS) hsc)} {k : PUnit → PR F α} :
    known X W K ⊢ iprop(qDone X W c d -∗ chunkSend c d -∗ owing c 8 8 n -∗ (waitCred c (0, d) -∗ owing c 8 8 n' -∗ runs c (k ⟨⟩) Q)
      -∗ runs c (.op (.enqueueDma src (.remote (Dev.tc t : Thread nD τ) dst (.dma sS) hsc) (.dma sR) h₁ h₂ hT) k) Q) := by
  unfold chunkSend chunkTok
  rw [if_neg hd]
  iintro #HK Hq ⟨Hd, Ht⟩ Ho Hk
  iapply (step_chunk X W K c d n n' hv hd ht hS hR hsrc hdst) $$ HK Hq Hd Ht Ho Hk
theorem away (c : Dev nD) (d : Fin 8) {n : ℕ} {h : n < nD} (e : n = (c.val + d.val) % 8) : (⟨n, h⟩ : Dev nD) = c + d :=
  Fin.ext (e.trans (Fin.val_add c d).symm)

theorem part10_runs {Q : _ → sProp 𝕄} (c : Dev nD) (v2 : BitVec 32) :
    known X W K ⊢ iprop(qDone X W c 1 -∗ chunkSend c 1 -∗ yDone X W c 2 -∗ qTodo c 2 -∗ chunkSend c 2 -∗ owing c 8 8 1
      -∗ (∀ v, waitCred c (0, 1) -∗ yDone X W c 2 -∗ waitCred c (0, 2) -∗ owing c 8 8 3 -∗ Q v)
      -∗ runs c (atBuffers (k0_part10 (F := F)) c v2 (invOf X W c)) Q) := by
  rw [k0_part10_eq_skeleton]; unfold atBuffers k0_part10_skel
  iintro #HK Q1 S1 Y2 Q2 S2 Ho Hk
  iapply (step_send_chunk X W K c 1 1 2 ⟨rfl, rfl⟩ (by decide) (away c 1 (k0_dev17_eq c)) (sem_at 0 rfl) (sem_at 1 (k0_off18_eq c)) (chunk_at sqM rfl)
    (chunk_at rqM (k0_off19_eq c))) $$ HK Q1 S1 Ho; iintro C1 Ho
  iapply (step_y X W c 2 rfl) $$ Y2; iintro Y2
  iapply (step_put sqM qT c 2 (sendBuf X W c) rfl (reads_q X W c 2 (by rfl))) $$ Q2; iintro Q2
  iapply (step_send_chunk X W K c 2 2 3 ⟨rfl, rfl⟩ (by decide) (away c 2 (k0_dev18_eq c)) (sem_at 0 rfl) (sem_at 1 (k0_off18_eq c)) (chunk_at sqM rfl)
    (chunk_at rqM (k0_off19_eq c))) $$ HK Q2 S2 Ho; iintro C2 Ho
  iapply (step_done c _ (by rfl))
  iapply Hk $$ C1 Y2 C2 Ho

theorem part11_runs {Q : _ → sProp 𝕄} (c : Dev nD) (v2 u : BitVec 32) :
    known X W K ⊢ iprop(yDone X W c 3 -∗ qTodo c 3 -∗ chunkSend c 3 -∗ yDone X W c 4 -∗ owing c 8 8 3
      -∗ (∀ v, yDone X W c 3 -∗ waitCred c (0, 3) -∗ yDone X W c 4 -∗ owing c 8 8 4 -∗ Q ⟨v, k0_pay34 (invOf X W c) (yPay X W c 4)⟩)
      -∗ runs c (atBuffers (k0_part11 (F := F)) c v2 (invOf X W c) u) Q) := by
  rw [k0_part11_eq_skeleton]; unfold atBuffers k0_part11_skel
  iintro #HK Y3 Q3 S3 Y4 Ho Hk
  iapply (step_y X W c 3 rfl) $$ Y3; iintro Y3
  iapply (step_put sqM qT c 3 (sendBuf X W c) rfl (reads_q X W c 3 (by rfl))) $$ Q3; iintro Q3
  iapply (step_send_chunk X W K c 3 3 4 ⟨rfl, rfl⟩ (by decide) (away c 3 (k0_dev19_eq c)) (sem_at 0 rfl) (sem_at 1 (k0_off18_eq c)) (chunk_at sqM rfl)
    (chunk_at rqM (k0_off19_eq c))) $$ HK Q3 S3 Ho; iintro C3 Ho
  iapply (step_y X W c 4 rfl) $$ Y4; iintro Y4
  iapply (step_done c ⟨_, k0_pay34 (invOf X W c) (yPay X W c 4)⟩ (by rfl))
  iapply Hk $$ Y3 C3 Y4 Ho

theorem part12_runs {Q : _ → sProp 𝕄} (c : Dev nD) (v2 u : BitVec 32) :
    known X W K ⊢ iprop(qTodo c 4 -∗ chunkSend c 4 -∗ yDone X W c 5 -∗ qTodo c 5 -∗ owing c 8 8 4
      -∗ (waitCred c (0, 4) -∗ yDone X W c 5 -∗ qDone X W c 5 -∗ owing c 8 8 5 -∗ Q ⟨⟩)
      -∗ runs c (atBuffers (k0_part12 (F := F)) c v2 (invOf X W c) u (k0_pay34 (invOf X W c) (yPay X W c 4))) Q) := by
  rw [k0_part12_eq_skeleton]; unfold atBuffers k0_part12_skel
  iintro #HK Q4 S4 Y5 Q5 Ho Hk
  iapply (step_put sqM qT c 4 (sendBuf X W c) rfl (reads_q X W c 4 (by rfl))) $$ Q4; iintro Q4
  iapply (step_send_chunk X W K c 4 4 5 ⟨rfl, rfl⟩ (by decide) (away c 4 (k0_dev20_eq c)) (sem_at 0 rfl) (sem_at 1 (k0_off18_eq c)) (chunk_at sqM rfl)
    (chunk_at rqM (k0_off19_eq c))) $$ HK Q4 S4 Ho; iintro C4 Ho
  iapply (step_y X W c 5 rfl) $$ Y5; iintro Y5
  iapply (step_put sqM qT c 5 (sendBuf X W c) rfl (reads_q X W c 5 (by rfl))) $$ Q5; iintro Q5
  iapply (step_done c ⟨⟩ (by rfl))
  iapply Hk $$ C4 Y5 Q5 Ho

theorem part13_runs {Q : _ → sProp 𝕄} (c : Dev nD) (v2 : BitVec 32) :
    known X W K ⊢ iprop(qDone X W c 5 -∗ chunkSend c 5 -∗ yDone X W c 6 -∗ qTodo c 6 -∗ chunkSend c 6 -∗ yDone X W c 7 -∗ owing c 8 8 5
      -∗ (∀ v, waitCred c (0, 5) -∗ yDone X W c 6 -∗ waitCred c (0, 6) -∗ yDone X W c 7 -∗ owing c 8 8 7 -∗ Q ⟨v, yPay X W c 7⟩)
      -∗ runs c (atBuffers (k0_part13 (F := F)) c v2 (invOf X W c)) Q) := by
  rw [k0_part13_eq_skeleton]; unfold atBuffers k0_part13_skel
  iintro #HK Q5 S5 Y6 Q6 S6 Y7 Ho Hk
  iapply (step_send_chunk X W K c 5 5 6 ⟨rfl, rfl⟩ (by decide) (away c 5 (k0_dev21_eq c)) (sem_at 0 rfl) (sem_at 1 (k0_off18_eq c)) (chunk_at sqM rfl)
    (chunk_at rqM (k0_off19_eq c))) $$ HK Q5 S5 Ho; iintro C5 Ho
  iapply (step_y X W c 6 rfl) $$ Y6; iintro Y6
  iapply (step_put sqM qT c 6 (sendBuf X W c) rfl (reads_q X W c 6 (by rfl))) $$ Q6; iintro Q6
  iapply (step_send_chunk X W K c 6 6 7 ⟨rfl, rfl⟩ (by decide) (away c 6 (k0_dev22_eq c)) (sem_at 0 rfl) (sem_at 1 (k0_off18_eq c)) (chunk_at sqM rfl)
    (chunk_at rqM (k0_off19_eq c))) $$ HK Q6 S6 Ho; iintro C6 Ho
  iapply (step_y X W c 7 rfl) $$ Y7; iintro Y7
  iapply (step_done c ⟨_, yPay X W c 7⟩ (by rfl))
  iapply Hk $$ C5 Y6 C6 Y7 Ho

/-! ## The output -/

theorem part14_runs {Q : _ → sProp 𝕄} (c : Dev nD) (u : BitVec 32) :
    known X W K ⊢ iprop(qTodo c 7 -∗ chunkSend c 7 -∗ yDone X W c 0 -∗ (∃ f, piece oM oT c 0 f) -∗ (∃ f, piece oM oT c 1 f) -∗ (∃ f, piece oM oT c 2 f) -∗ (∃ f, piece oM oT c 3 f) -∗ owing c 8 8 7
      -∗ (waitCred c (0, 7) -∗ yDone X W c 0 -∗ outHalf X W c 0 -∗ outHalf X W c 1 -∗ outHalf X W c 2 -∗ outHalf X W c 3 -∗ owing c 8 8 8 -∗ Q ⟨⟩)
      -∗ runs c (atBuffers (k0_part14 (F := F)) c (word c) (stepOf X W c) (invOf X W c) u (yPay X W c 7)) Q) := by
  rw [k0_part14_eq_skeleton]; unfold atBuffers k0_part14_skel
  iintro #HK Q7 S7 Y0 H0 H1 H2 H3 Ho Hk
  iapply (step_put sqM qT c 7 (sendBuf X W c) rfl (reads_q X W c 7 (by rfl))) $$ Q7; iintro Q7
  iapply (step_send_chunk X W K c 7 7 8 ⟨rfl, rfl⟩ (by decide) (away c 7 (k0_dev23_eq c)) (sem_at 0 rfl) (sem_at 1 (k0_off18_eq c)) (chunk_at sqM rfl)
    (chunk_at rqM (k0_off19_eq c))) $$ HK Q7 S7 Ho; iintro C7 Ho
  iapply (step_own X W c 0 (by revert c; decide) rfl (fun _ => rfl) (fun _ _ => rfl)) $$ H0 Y0; iintro H0 Y0
  iapply (step_own X W c 1 (by revert c; decide) rfl (fun _ => rfl) (fun _ _ => rfl)) $$ H1 Y0; iintro H1 Y0
  iapply (step_own X W c 2 (by revert c; decide) rfl (fun _ => rfl) (fun _ _ => rfl)) $$ H2 Y0; iintro H2 Y0
  iapply (step_own X W c 3 (by revert c; decide) rfl (fun _ => rfl) (fun _ _ => rfl)) $$ H3 Y0; iintro H3 Y0
  iapply (step_done c ⟨⟩ (by rfl))
  iapply Hk $$ C7 Y0 H0 H1 H2 H3 Ho

/-- Row block `s` of the output written. -/
abbrev outDone (c : Dev nD) (s : Fin 8) : sProp 𝕄 := piece oM oT c s (outBuf X W c)

theorem step_take {α : Type} {Q : α → sProp 𝕄} (c : Dev nD) (s : Fin 8) {b : Prop} [Decidable b] (hb : b ↔ s ≠ c)
    {sem : b → DmaSem sig} (hs : ∀ h, sem h = copyS (1, s)) {src dst : Memref sig .tc .vmem S512x256 .fp8e4m3}
    {h₁ : src.view.WordExact} {h₂ : dst.view.WordExact} (hd : dst = chunkOf rqM s)
    {off' : Fin 3 → ℕ} (ho' : off' = qT.off s)
    {off : Fin 2 → ℕ} (ho : off = oT.off s) {w : Vec F S1x512x256 .fp8e4m3 → Vec F S512x256 .f32} (hw : ∀ y, w y = k0_pay47 (stepOf X W c) y)
    {i₁ i₂ i₃ l₁ l₂ hx hm} {k : b → Vec F S1x512x256 .fp8e4m3 → PUnit → PR F α} {B : PR F α} (hk : ∀ h v, k h v ⟨⟩ = B) :
    known X W K ⊢ iprop(waitIn c (1, s) -∗ outHalf X W c s -∗ owing c 8 8 8
      -∗ (waitOut X W c (1, s) -∗ outDone X W c s -∗ owing c 8 8 8 -∗ runs c B Q)
      -∗ runs c (if h : b then
            .op (.waitDma2 (sem h) src dst h₁ h₂) fun _ =>
            .op (.load rqM (Rect.unit (s := S8x512x256) off' S1x512x256.size i₁).toLoadRect l₁) fun v =>
            .op (.load oM (Rect.unit (s := S4096x256) off S512x256.size i₂).toLoadRect l₂) fun _ =>
            .op (.store oM (Rect.unit (s := S4096x256) off S512x256.size i₃) (w v) Finset.univ hx hm) (k h v)
          else B) Q) := by
  unfold waitIn waitOut
  iintro #HK ⟨Hat, Hc⟩ Hf Ho Hk
  iapply (step_recv X W K c s hb hs hd ho' ho hw hk) $$ HK Hat Hc Hf Ho
  iintro Hp Hz Hf Ho
  iapply Hk $$ [Hp Hz] Hf Ho
  iframe Hp Hz

theorem part15_runs {Q : _ → sProp 𝕄} (c : Dev nD) :
    known X W K ⊢ iprop(yDone X W c 0 -∗ (∃ f, piece oM oT c 4 f) -∗ (∃ f, piece oM oT c 5 f) -∗ (∃ f, piece oM oT c 6 f) -∗ (∃ f, piece oM oT c 7 f) -∗ outHalf X W c 0 -∗ outHalf X W c 1 -∗ outHalf X W c 2 -∗ waitIn c (1, 0) -∗ waitIn c (1, 1) -∗ waitIn c (1, 2) -∗ owing c 8 8 8
      -∗ (yDone X W c 0 -∗ outHalf X W c 4 -∗ outHalf X W c 5 -∗ outHalf X W c 6 -∗ outHalf X W c 7 -∗ waitOut X W c (1, 0) -∗ waitOut X W c (1, 1) -∗ waitOut X W c (1, 2) -∗ outDone X W c 0 -∗ outDone X W c 1 -∗ outDone X W c 2 -∗ owing c 8 8 8 -∗ Q (Scalar.extui (Scalar.cmpi .ne (word c) 3#32)))
      -∗ runs c (atBuffers (k0_part15 (F := F)) (word c) (stepOf X W c) (invOf X W c)) Q) := by
  rw [k0_part15_eq_skeleton]; unfold atBuffers k0_part15_skel
  iintro #HK Y0 H4 H5 H6 H7 H0 H1 H2 R0 R1 R2 Ho Hk
  iapply (step_own X W c 4 (by revert c; decide) rfl (fun _ => rfl) (fun _ _ => rfl)) $$ H4 Y0; iintro H4 Y0
  iapply (step_own X W c 5 (by revert c; decide) rfl (fun _ => rfl) (fun _ _ => rfl)) $$ H5 Y0; iintro H5 Y0
  iapply (step_own X W c 6 (by revert c; decide) rfl (fun _ => rfl) (fun _ _ => rfl)) $$ H6 Y0; iintro H6 Y0
  iapply (step_own X W c 7 (by revert c; decide) rfl (fun _ => rfl) (fun _ _ => rfl)) $$ H7 Y0; iintro H7 Y0
  iapply (step_take X W K c 0 (by revert c; decide) (fun _ => sem_at 1 rfl) (chunk_at rqM rfl) rfl rfl (fun _ => rfl) (fun _ _ => rfl)) $$ HK R0 H0 Ho; iintro R0 H0 Ho
  iapply (step_take X W K c 1 (by revert c; decide) (fun _ => sem_at 1 rfl) (chunk_at rqM rfl) rfl rfl (fun _ => rfl) (fun _ _ => rfl)) $$ HK R1 H1 Ho; iintro R1 H1 Ho
  iapply (step_take X W K c 2 (by revert c; decide) (fun _ => sem_at 1 rfl) (chunk_at rqM rfl) rfl rfl (fun _ => rfl) (fun _ _ => rfl)) $$ HK R2 H2 Ho; iintro R2 H2 Ho
  iapply (step_done c (Scalar.extui (Scalar.cmpi .ne (word c) 3#32)) (by rfl))
  iapply Hk $$ Y0 H4 H5 H6 H7 R0 R1 R2 H0 H1 H2 Ho

/-! ## The waits for what was sent -/

theorem step_sent {α : Type} {Q : α → sProp 𝕄} (c : Dev nD) (d : Fin 8) (h0 : d ≠ 0) {sem : DmaSem sig} (hs : sem = copyS (0, d))
    {src dst : Memref sig .tc .vmem S512x256 .fp8e4m3} (hd : dst = chunkOf sqM d) {h₁ : src.view.WordExact} {h₂ : dst.view.WordExact} {k : PUnit → PR F α} :
    known X W K ⊢ iprop(waitIn c (0, d) -∗ owing c 8 8 8 -∗ (waitOut X W c (0, d) -∗ owing c 8 8 8 -∗ runs c (k ⟨⟩) Q)
      -∗ runs c (.op (.waitDma2 sem src dst h₁ h₂) k) Q) := by
  unfold waitIn waitOut
  rw [show waitPay X W c (0, d) = copyPay X W c (0, d) from if_neg h0]
  iintro #HK ⟨Hat, Hc⟩ Ho Hk
  iapply (wait_copy X W K c (0, d) h0 (mayWait_end c _) hs (by rw [hd]; rfl)) $$ HK Hat Hc Ho
  iintro Hp Hz Ho
  iapply Hk $$ [Hp Hz] Ho
  iframe Hp Hz
theorem step_sent_max {α : Type} {Q : α → sProp 𝕄} (c p : Dev nD) {t : Prop} [Decidable t] (ht : t ↔ p ≠ c) {sem : t → DmaSem sig} (hs : ∀ h, sem h = copyS (2, p))
    {src : t → Memref sig .tc .vmem S8x128 .f32} {h₁ : ∀ h, (src h).view.WordExact} {h₂ : asM.view.WordExact} {k : t → PUnit → PR F α} {B : PR F α} (hk : ∀ h, k h ⟨⟩ = B) :
    known X W K ⊢ iprop(waitIn c (2, p) -∗ owing c 8 8 8 -∗ (waitOut X W c (2, p) -∗ owing c 8 8 8 -∗ runs c B Q)
      -∗ runs c (if h : t then .op (.waitDma2 (sem h) (src h) asM (h₁ h) h₂) (k h) else B) Q) := by
  unfold waitIn waitOut
  iintro #HK ⟨Hat, Hc⟩ Ho Hk
  iapply (step_wait X W K c (2, p) ht (mayWait_end c _) hs (src := src) (dst := fun _ => asM) (h₁ := h₁) (h₂ := fun _ => h₂) (fun _ => rfl) hk) $$ HK Hat Hc Ho
  iintro Hp Hz Ho
  iapply Hk $$ [Hp Hz] Ho
  iframe Hp Hz

theorem part16_runs {Q : _ → sProp 𝕄} (c : Dev nD) :
    known X W K ⊢ iprop(waitIn c (1, 3) -∗ waitIn c (1, 4) -∗ waitIn c (1, 5) -∗ waitIn c (1, 6) -∗ waitIn c (1, 7) -∗ outHalf X W c 3 -∗ outHalf X W c 4 -∗ outHalf X W c 5 -∗ outHalf X W c 6 -∗ outHalf X W c 7 -∗ waitIn c (0, 1) -∗ owing c 8 8 8
      -∗ (waitOut X W c (1, 3) -∗ waitOut X W c (1, 4) -∗ waitOut X W c (1, 5) -∗ waitOut X W c (1, 6) -∗ waitOut X W c (1, 7) -∗ outDone X W c 3 -∗ outDone X W c 4 -∗ outDone X W c 5 -∗ outDone X W c 6 -∗ outDone X W c 7 -∗ waitOut X W c (0, 1) -∗ owing c 8 8 8 -∗ Q ⟨⟩)
      -∗ runs c (atBuffers (k0_part16 (F := F)) c (word c) (stepOf X W c) (Scalar.extui (Scalar.cmpi .ne (word c) 3#32))) Q) := by
  rw [k0_part16_eq_skeleton]; unfold atBuffers k0_part16_skel
  iintro #HK R3 R4 R5 R6 R7 H3 H4 H5 H6 H7 W1 Ho Hk
  iapply (step_take X W K c 3 (by revert c; decide) (fun _ => sem_at 1 rfl) (chunk_at rqM rfl) rfl rfl (fun _ => rfl) (fun _ _ => rfl)) $$ HK R3 H3 Ho; iintro R3 H3 Ho
  iapply (step_take X W K c 4 (by revert c; decide) (fun _ => sem_at 1 rfl) (chunk_at rqM rfl) rfl rfl (fun _ => rfl) (fun _ _ => rfl)) $$ HK R4 H4 Ho; iintro R4 H4 Ho
  iapply (step_take X W K c 5 (by revert c; decide) (fun _ => sem_at 1 rfl) (chunk_at rqM rfl) rfl rfl (fun _ => rfl) (fun _ _ => rfl)) $$ HK R5 H5 Ho; iintro R5 H5 Ho
  iapply (step_take X W K c 6 (by revert c; decide) (fun _ => sem_at 1 rfl) (chunk_at rqM rfl) rfl rfl (fun _ => rfl) (fun _ _ => rfl)) $$ HK R6 H6 Ho; iintro R6 H6 Ho
  iapply (step_take X W K c 7 (by revert c; decide) (fun _ => sem_at 1 rfl) (chunk_at rqM rfl) rfl rfl (fun _ => rfl) (fun _ _ => rfl)) $$ HK R7 H7 Ho; iintro R7 H7 Ho
  iapply (step_sent X W K c 1 (by decide) (sem_at 0 rfl) (chunk_at sqM rfl)) $$ HK W1 Ho; iintro W1 Ho
  iapply (step_done c ⟨⟩ (by rfl))
  iapply Hk $$ R3 R4 R5 R6 R7 H3 H4 H5 H6 H7 W1 Ho

theorem part17_runs {Q : _ → sProp 𝕄} (c : Dev nD) :
    known X W K ⊢ iprop(waitIn c (0, 2) -∗ waitIn c (0, 3) -∗ waitIn c (0, 4) -∗ waitIn c (0, 5) -∗ owing c 8 8 8
      -∗ (waitOut X W c (0, 2) -∗ waitOut X W c (0, 3) -∗ waitOut X W c (0, 4) -∗ waitOut X W c (0, 5) -∗ owing c 8 8 8 -∗ Q ⟨⟩)
      -∗ runs c (atBuffers (k0_part17 (F := F)) c) Q) := by
  rw [k0_part17_eq_skeleton]; unfold atBuffers k0_part17_skel
  iintro #HK W2 W3 W4 W5 Ho Hk
  iapply (step_sent X W K c 2 (by decide) (sem_at 0 rfl) (chunk_at sqM rfl)) $$ HK W2 Ho; iintro W2 Ho
  iapply (step_sent X W K c 3 (by decide) (sem_at 0 rfl) (chunk_at sqM rfl)) $$ HK W3 Ho; iintro W3 Ho
  iapply (step_sent X W K c 4 (by decide) (sem_at 0 rfl) (chunk_at sqM rfl)) $$ HK W4 Ho; iintro W4 Ho
  iapply (step_sent X W K c 5 (by decide) (sem_at 0 rfl) (chunk_at sqM rfl)) $$ HK W5 Ho; iintro W5 Ho
  iapply (step_done c ⟨⟩ (by rfl))
  iapply Hk $$ W2 W3 W4 W5 Ho

theorem part18_runs {Q : _ → sProp 𝕄} (c : Dev nD) (v2 : BitVec 32) :
    known X W K ⊢ iprop(waitIn c (0, 6) -∗ waitIn c (0, 7) -∗ waitIn c (2, 0) -∗ waitIn c (2, 1) -∗ waitIn c (2, 2) -∗ waitIn c (2, 3) -∗ waitIn c (2, 4) -∗ owing c 8 8 8
      -∗ (∀ v, waitOut X W c (0, 6) -∗ waitOut X W c (0, 7) -∗ waitOut X W c (2, 0) -∗ waitOut X W c (2, 1) -∗ waitOut X W c (2, 2) -∗ waitOut X W c (2, 3) -∗ waitOut X W c (2, 4) -∗ owing c 8 8 8 -∗ Q v)
      -∗ runs c (atBuffers (k0_part18 (F := F)) c v2) Q) := by
  rw [k0_part18_eq_skeleton]; unfold atBuffers k0_part18_skel
  iintro #HK W6 W7 M0 M1 M2 M3 M4 Ho Hk
  iapply (step_sent X W K c 6 (by decide) (sem_at 0 rfl) (chunk_at sqM rfl)) $$ HK W6 Ho; iintro W6 Ho
  iapply (step_sent X W K c 7 (by decide) (sem_at 0 rfl) (chunk_at sqM rfl)) $$ HK W7 Ho; iintro W7 Ho
  iapply (step_sent_max X W K c 0 (by revert c; decide) (fun _ => sem_at 2 rfl) (fun _ => rfl)) $$ HK M0 Ho; iintro M0 Ho
  iapply (step_sent_max X W K c 1 (by revert c; decide) (fun _ => sem_at 2 rfl) (fun _ => rfl)) $$ HK M1 Ho; iintro M1 Ho
  iapply (step_sent_max X W K c 2 (by revert c; decide) (fun _ => sem_at 2 rfl) (fun _ => rfl)) $$ HK M2 Ho; iintro M2 Ho
  iapply (step_sent_max X W K c 3 (by revert c; decide) (fun _ => sem_at 2 rfl) (fun _ => rfl)) $$ HK M3 Ho; iintro M3 Ho
  iapply (step_sent_max X W K c 4 (by revert c; decide) (fun _ => sem_at 2 rfl) (fun _ => rfl)) $$ HK M4 Ho; iintro M4 Ho
  iapply (step_done c _ (by rfl))
  iapply Hk $$ W6 W7 M0 M1 M2 M3 M4 Ho

end Cert.KernelProof
-- ==== Proof.Body.lean ====
/- The whole kernel on one device: its parts one after another. -/
module

public import proofs.«01_k».proof.Proof.Chunks

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x4096 .bf16) (W : Dev nD → Vec F S4096x2048 .bf16)
variable (K : Dev nD × KIx → ℕ)

/-- The right to signal device `p`. -/
def signalTok (c p : Dev nD) : sProp 𝕄 := if p = c then iprop(emp) else dutyTok ER (barCell p) 0 c

/-- The devices counted from `c` on. -/
def turn (c : Dev nD) : Fin 8 ≃ Dev nD := ⟨fun d => c + d, fun p => p - c, fun d => by revert c d; decide, fun p => by revert c p; decide⟩

/-- The landing slots that the signals bring, dealt to the copies that fill them. -/
theorem bar_deal (c : Dev nD) :
    iprop((bigSep Finset.univ fun p => barPay (F := F) c p) ∗ (bigSep Finset.univ fun p => maxTok c p) ∗ bigSep Finset.univ fun d => chunkTok c d)
      ⊢ iprop((bigSep Finset.univ fun p => maxSend c p) ∗ bigSep Finset.univ fun d => chunkSend c d) := by
  have hq : (bigSep Finset.univ fun p : Dev nD => iprop(∃ f, piece (F := F) rqM qT p c f)) = bigSep Finset.univ fun d : Fin 8 => iprop(∃ f, piece rqM qT (c + d) c f) :=
    bigSep_univ_equiv (turn c) _
  unfold barPay maxSend chunkSend
  rw [bigSep_sep', bigSep_sep', bigSep_sep', hq]
  iintro ⟨⟨Ha, Hq⟩, Hm, Hc⟩
  isplitl [Ha Hm]
  · isplitl [Ha] <;> iassumption
  isplitl [Hq] <;> iassumption

/-- What is left of sending the maxima, dealt to the waits. -/
theorem max_deal (c : Dev nD) :
    iprop((bigSep Finset.univ fun p => maxSent X W c p) ∗ (bigSep Finset.univ fun s => waitIn c (3, s)) ∗ bigSep Finset.univ fun p => atPos ER (copyCell c (2, p)) 0 ∅ 0)
      ⊢ iprop((bigSep Finset.univ fun s => maxIn c s) ∗ (bigSep Finset.univ fun p => waitIn c (2, p)) ∗ bigSep Finset.univ fun p => keptShare X W c p) := by
  unfold maxSent maxIn
  rw [bigSep_sep', bigSep_sep', bigSep_sep', show (bigSep Finset.univ fun p : Fin 8 => waitIn (F := F) c (2, p)) = iprop((bigSep Finset.univ fun p : Fin 8 => atPos ER (copyCell c (2, p)) 0 ∅ 0)
    ∗ bigSep Finset.univ fun p => waitCred c (2, p)) from bigSep_sep' _ _ _]
  iintro ⟨⟨Hc, Hs, Hk⟩, Hi, Hp⟩
  isplitl [Hi Hk]
  · isplitl [Hi] <;> iassumption
  isplitl [Hc Hp]
  · isplitl [Hp] <;> iassumption
  iexact Hs

theorem body_runs {Q : PUnit → sProp 𝕄} (c : Dev nD) :
    known X W K ⊢ iprop((bigSep Finset.univ fun p => signalIn c p) -∗ atPos ER (barCell c) 0 ∅ 0 -∗ cred (tallyAt (barCell c) () 7) -∗ owing c 0 0 1
      -∗ held xM c (X c) -∗ held wM c (W c) -∗ (bigSep Finset.univ fun d => yTodo c d) -∗ (bigSep Finset.univ fun d => qTodo c d)
      -∗ (bigSep Finset.univ fun s => iprop(∃ f, piece oM oT c s f)) -∗ (∃ f, held asM c f)
      -∗ (bigSep Finset.univ fun p => maxTok c p) -∗ (bigSep Finset.univ fun d => chunkTok c d)
      -∗ (bigSep Finset.univ fun d => atPos ER (copyCell c (0, d)) 0 ∅ 0) -∗ (bigSep Finset.univ fun s => waitIn c (1, s))
      -∗ (bigSep Finset.univ fun p => atPos ER (copyCell c (2, p)) 0 ∅ 0) -∗ (bigSep Finset.univ fun s => waitIn c (3, s))
      -∗ (held xM c (X c) -∗ held wM c (W c) -∗ (bigSep Finset.univ fun s => outDone X W c s) -∗ owing c 8 8 8 -∗ semVal (barCell c) 0
        -∗ (bigSep Finset.univ fun d => yDone X W c d) -∗ qTodo c 0 -∗ (∃ f, piece rqM qT c c f)
        -∗ maxAt c (Transfers.shareDrop fullShare 8) (ownMaxBuf X W c) -∗ (bigSep Finset.univ fun p => keptShare X W c p)
        -∗ (bigSep Finset.univ fun d => waitOut X W c (0, d)) -∗ (bigSep Finset.univ fun s => waitOut X W c (1, s))
        -∗ (bigSep Finset.univ fun p => waitOut X W c (2, p)) -∗ (bigSep Finset.univ fun s => maxOut X W c s) -∗ Q ⟨⟩)
      -∗ runs c (atBuffers (cc0_body (F := F))) Q) := by
  rw [cc0_body_eq_skeleton]; unfold atBuffers cc0_body_skel
  iintro #HK Hsig HatB HcB Ho Hx Hw Hy Hq Hout Hmax HtM HtC HatS HinR HatM HinM Hk
  ihave Hy := (Entails.of_eq (eight (fun d => yTodo c d))) $$ Hy
  icases Hy with ⟨Y0, Y1, Y2, Y3, Y4, Y5, Y6, Y7⟩
  ihave Hq := (Entails.of_eq (eight (fun d => qTodo c d))) $$ Hq
  icases Hq with ⟨Q0, Q1, Q2, Q3, Q4, Q5, Q6, Q7⟩
  ihave Hout := (Entails.of_eq (eight (fun s => iprop(∃ f, piece oM oT c s f)))) $$ Hout
  icases Hout with ⟨H0, H1, H2, H3, H4, H5, H6, H7⟩
  ihave HatS := (Entails.of_eq (eight (fun d => atPos ER (copyCell c (0, d)) 0 ∅ 0))) $$ HatS
  icases HatS with ⟨A0, A1, A2, A3, A4, A5, A6, A7⟩
  ihave HinR := (Entails.of_eq (eight (fun s => waitIn c (1, s)))) $$ HinR
  icases HinR with ⟨R0, R1, R2, R3, R4, R5, R6, R7⟩
  iapply (step_part c _ _)
  iapply (part1_runs X W K c) $$ HK Hsig Ho; iintro %v1 Hsig Ho
  iapply (step_part c _ _)
  iapply (part2_runs X W K c _ v1) $$ HK Hsig HatB HcB Ho Hx Hw Y1 Y2; iintro %v2 Hbar HzB Ho Hx Hw Y1 Y2
  iapply (step_part c _ _)
  iapply (part3_runs X W c _ v2) $$ Hx Hw Y3 Y4; iintro %v3 Hx Hw Y3 Y4
  iapply (step_part c _ _)
  iapply (part4_runs X W c _ v3) $$ Hx Hw Y5 Y6; iintro %v4 Hx Hw Y5 Y6
  iapply (step_part c _ _)
  iapply (part5_runs X W c _ v4) $$ Hx Hw Y7 Y0; iintro %v5 %hv Hx Hw Y7 Y0
  ihave Hd := (bar_deal c) $$ [Hbar HtM HtC]
  · iframe Hbar HtM HtC
  icases Hd with ⟨Hsend, HtC⟩
  iapply (step_part c _ _)
  iapply (part6_runs X W K c _ v5 hv) $$ HK Hmax Hsend Ho; iintro Hr Hsent Ho
  ihave Hd := (max_deal X W c) $$ [Hsent HinM HatM]
  · iframe Hsent HinM HatM
  icases Hd with ⟨HinM, HinS, Hkept⟩
  ihave HtC := (Entails.of_eq (eight (fun d => chunkSend c d))) $$ HtC
  icases HtC with ⟨S0, S1, S2, S3, S4, S5, S6, S7⟩
  ihave HinM := (Entails.of_eq (eight (fun s => maxIn c s))) $$ HinM
  icases HinM with ⟨G0, G1, G2, G3, G4, G5, G6, G7⟩
  ihave HinS := (Entails.of_eq (eight (fun p => waitIn c (2, p)))) $$ HinS
  icases HinS with ⟨M0, M1, M2, M3, M4, M5, M6, M7⟩
  iapply (step_part c _ _)
  iapply (part7_runs X W K c) $$ HK G0 G1 G2 G3 G4 G5 Ho; iintro G0 G1 G2 G3 G4 G5 Ho
  iapply (step_part c _ _)
  iapply (part8_runs X W K c) $$ HK G6 G7 G0 G1 G2 G3 G4 Ho; iintro G6 G7 G0 G1 G2 G3 G4 Ho
  iapply (step_part c _ _)
  iapply (part9_runs X W c) $$ G5 G6 G7 Y1 Q1; iintro G5 G6 G7 Y1 Q1
  iapply (step_part c _ _)
  iapply (part10_runs X W K c _) $$ HK Q1 S1 Y2 Q2 S2 Ho; iintro %v10 C1 Y2 C2 Ho
  iapply (step_part c _ _)
  iapply (part11_runs X W K c _ v10) $$ HK Y3 Q3 S3 Y4 Ho; iintro %v11 Y3 C3 Y4 Ho
  iapply (step_part c _ _)
  iapply (part12_runs X W K c _ v11) $$ HK Q4 S4 Y5 Q5 Ho; iintro C4 Y5 Q5 Ho
  iapply (step_part c _ _)
  iapply (part13_runs X W K c _) $$ HK Q5 S5 Y6 Q6 S6 Y7 Ho; iintro %v13 C5 Y6 C6 Y7 Ho
  iapply (step_part c _ _)
  iapply (part14_runs X W K c v13) $$ HK Q7 S7 Y0 H0 H1 H2 H3 Ho; iintro C7 Y0 H0 H1 H2 H3 Ho
  iapply (step_part c _ _)
  iapply (part15_runs X W K c) $$ HK Y0 H4 H5 H6 H7 H0 H1 H2 R0 R1 R2 Ho; iintro Y0 H4 H5 H6 H7 R0 R1 R2 H0 H1 H2 Ho
  have hin : ∀ d : Fin 8, iprop(atPos ER (copyCell c (0, d)) 0 ∅ 0 ∗ waitCred (F := F) c (0, d)) ⊢ waitIn c (0, d) := fun d => Entails.refl _
  ihave A1 := (hin 1) $$ [A1 C1]
  · iframe A1 C1
  ihave A2 := (hin 2) $$ [A2 C2]
  · iframe A2 C2
  ihave A3 := (hin 3) $$ [A3 C3]
  · iframe A3 C3
  ihave A4 := (hin 4) $$ [A4 C4]
  · iframe A4 C4
  ihave A5 := (hin 5) $$ [A5 C5]
  · iframe A5 C5
  ihave A6 := (hin 6) $$ [A6 C6]
  · iframe A6 C6
  ihave A7 := (hin 7) $$ [A7 C7]
  · iframe A7 C7
  iapply (step_part c _ _)
  iapply (part16_runs X W K c) $$ HK R3 R4 R5 R6 R7 H3 H4 H5 H6 H7 A1 Ho; iintro R3 R4 R5 R6 R7 H3 H4 H5 H6 H7 A1 Ho
  iapply (step_part c _ _)
  iapply (part17_runs X W K c) $$ HK A2 A3 A4 A5 Ho; iintro A2 A3 A4 A5 Ho
  iapply (step_part c _ _)
  iapply (part18_runs X W K c _) $$ HK A6 A7 M0 M1 M2 M3 M4 Ho; iintro %v18 A6 A7 M0 M1 M2 M3 M4 Ho
  iapply (step_sent_max X W K c 5 (by clear hv hin; revert c; decide) (fun _ => sem_at 2 rfl) (fun _ => rfl)) $$ HK M5 Ho; iintro M5 Ho
  iapply (step_sent_max X W K c 6 (by clear hv hin; revert c; decide) (fun _ => sem_at 2 rfl) (fun _ => rfl)) $$ HK M6 Ho; iintro M6 Ho
  iapply (step_sent_max X W K c 7 (by clear hv hin; revert c; decide) (fun _ => sem_at 2 rfl) (fun _ => rfl)) $$ HK M7 Ho; iintro M7 Ho
  iapply (close_idle X W K c (0, 0) rfl) $$ HK A0; iintro A0
  ihave A0 := (show semVal (copyCell c (0, 0)) 0 ⊢ waitOut X W c (0, 0) from by
    unfold waitOut waitPay; rw [if_pos (show idle c (0, 0) from rfl)]; iintro H; isplitr; · iempintro
    iexact H) $$ A0
  unfold chunkSend
  icases S0 with ⟨S0, -⟩
  iapply (step_done c ⟨⟩ (by rfl))
  iapply Hk $$ Hx Hw [H0 H1 H2 H3 H4 H5 H6 H7] Ho HzB [Y0 Y1 Y2 Y3 Y4 Y5 Y6 Y7] Q0 [S0] Hr Hkept [A0 A1 A2 A3 A4 A5 A6 A7] [R0 R1 R2 R3 R4 R5 R6 R7] [M0 M1 M2 M3 M4 M5 M6 M7] [G0 G1 G2 G3 G4 G5 G6 G7]
  · iapply (Entails.of_eq (eight (fun s => outDone X W c s)).symm); iframe H0 H1 H2 H3 H4 H5 H6 H7
  · iapply (Entails.of_eq (eight (fun d => yDone X W c d)).symm); iframe Y0 Y1 Y2 Y3 Y4 Y5 Y6 Y7
  · rw [show c + (0 : Fin 8) = c from by clear hv hin; revert c; decide]; iexact S0
  · iapply (Entails.of_eq (eight (fun d => waitOut X W c (0, d))).symm); iframe A0 A1 A2 A3 A4 A5 A6 A7
  · iapply (Entails.of_eq (eight (fun s => waitOut X W c (1, s))).symm); iframe R0 R1 R2 R3 R4 R5 R6 R7
  · iapply (Entails.of_eq (eight (fun p => waitOut X W c (2, p))).symm); iframe M0 M1 M2 M3 M4 M5 M6 M7
  · iapply (Entails.of_eq (eight (fun s => maxOut X W c s)).symm); iframe G0 G1 G2 G3 G4 G5 G6 G7

end Cert.KernelProof
-- ==== Proof.Deal.lean ====
/- What the launch deals: the cells and the duty tokens minted, the tokens handed to the devices that spend them, and the
   credits for what the other devices owe. -/
module

public import proofs.«01_k».proof.Proof.Body
public import proofs.«01_k».proof.Proof.Gen.KernelIdeal.Frame

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x4096 .bf16) (W : Dev nD → Vec F S4096x2048 .bf16)
variable (K : Dev nD × KIx → ℕ)

/-! ## Families by name -/

theorem four (Φ : Fin 4 × Fin 8 → sProp 𝕄) : bigSep Finset.univ Φ
    = iprop((bigSep Finset.univ fun k => Φ (0, k)) ∗ (bigSep Finset.univ fun k => Φ (1, k)) ∗ (bigSep Finset.univ fun k => Φ (2, k)) ∗ bigSep Finset.univ fun k => Φ (3, k)) := by
  rw [bigSep_univ_prod]; exact bigSep_univ_eq_bigSepL [0, 1, 2, 3] (by decide) (by decide) _

/-- The barrier cell and the four arrays. -/
theorem byName (Φ : KIx → sProp 𝕄) : bigSep Finset.univ Φ = iprop(Φ (.inl ()) ∗ (bigSep Finset.univ fun k => Φ (.inr (0, k)))
    ∗ (bigSep Finset.univ fun k => Φ (.inr (1, k))) ∗ (bigSep Finset.univ fun k => Φ (.inr (2, k))) ∗ bigSep Finset.univ fun k => Φ (.inr (3, k))) := by
  rw [bigSep_univ_sum, four, bigSep_univ_of_subsingleton ()]
  rfl

theorem csem_injective : Function.Injective csem := by
  rintro (a | a) (b | b) h
  · rfl
  · exact absurd h (by simp)
  · exact absurd h (by simp)
  · exact congrArg _ (copyS_injective (SemLoc.dma.inj h))
theorem kcell_injective : Function.Injective (kcell : Dev nD × KIx → GSem nD τ sig) := by
  rintro ⟨c, k⟩ ⟨c', k'⟩ h
  have h1 : c = c' := congrArg (fun g : GSem nD τ sig => g.1.1) h
  exact Prod.ext h1 (csem_injective (congrArg Prod.snd h))

/-! ## What is minted -/

abbrev TIx := Dev nD ⊕ (Fin 4 × Fin 8)
abbrev tokOf (cj : Dev nD × TIx) : GSem nD τ sig × ℕ × Dev nD := match cj.2 with
  | .inl p => (barCell cj.1, 0, p)
  | .inr ak => (copyCell cj.1 ak, 0, 0)
theorem tokOf_injective : Function.Injective tokOf := by
  rintro ⟨c, p | ak⟩ ⟨c', p' | ak'⟩ h
  · have h1 : c = c' := congrArg (fun x : GSem nD τ sig × ℕ × Dev nD => x.1.1.1) h
    have h2 : p = p' := congrArg (fun x : GSem nD τ sig × ℕ × Dev nD => x.2.2) h
    rw [h1, h2]
  · exact absurd (congrArg (fun x : GSem nD τ sig × ℕ × Dev nD => x.1.2) h) (by simp)
  · exact absurd (congrArg (fun x : GSem nD τ sig × ℕ × Dev nD => x.1.2) h) (by simp)
  · have h1 : c = c' := congrArg (fun x : GSem nD τ sig × ℕ × Dev nD => x.1.1.1) h
    have h2 := copyS_injective (SemLoc.dma.inj (congrArg (fun x : GSem nD τ sig × ℕ × Dev nD => x.1.2) h))
    rw [h1, h2]

def planCells : Finset (GSem nD τ sig) := Finset.univ.map ⟨kcell, kcell_injective⟩
def planToks : Finset (GSem nD τ sig × ℕ × Dev nD) := Finset.univ.map ⟨tokOf, tokOf_injective⟩
def u₀ : UU := (initOf (Pipeline.cells cfgs cellOf_inj) (Pipeline.launchToks cfgs cellOf_inj), initOf planCells planToks)

/-- The tokens of the duties at device `c`'s own cells. -/
def toks (c : Dev nD) : sProp 𝕄 :=
  iprop((bigSep Finset.univ fun p : Dev nD => dutyTok ER (barCell c) 0 p) ∗ bigSep Finset.univ fun ak => dutyTok ER (copyCell c ak) 0 0)
/-- The tokens of the duties device `c` discharges. -/
def payToks (c : Dev nD) : sProp 𝕄 :=
  iprop((bigSep Finset.univ fun p => signalTok c p) ∗ (bigSep Finset.univ fun p => maxTok c p) ∗ bigSep Finset.univ fun d => chunkTok c d)

theorem drop_if {P : Prop} [Decidable P] (A : sProp 𝕄) : A ⊢ if P then iprop(emp) else A := by
  split
  · iintro -; iempintro
  · exact Entails.refl _

theorem toks_around : (bigSep Finset.univ fun c : Dev nD => toks (F := F) c) ⊢ bigSep Finset.univ fun c : Dev nD => payToks c := by
  have hb : (bigSep Finset.univ fun c : Dev nD => bigSep Finset.univ fun p : Dev nD => (dutyTok ER (barCell c) 0 p : sProp 𝕄))
      = bigSep Finset.univ fun c : Dev nD => bigSep Finset.univ fun p : Dev nD => dutyTok ER (barCell p) 0 c := bigSep_univ_comm _
  have hq : (bigSep Finset.univ fun c : Dev nD => bigSep Finset.univ fun p : Dev nD => (dutyTok ER (copyCell c (1, p)) 0 0 : sProp 𝕄))
      = bigSep Finset.univ fun c : Dev nD => bigSep Finset.univ fun d : Fin 8 => dutyTok ER (copyCell (c + d) (1, c)) 0 0 :=
    (bigSep_univ_comm _).trans (bigSep_congr fun c _ => bigSep_univ_equiv (turn c) _)
  have ha : (bigSep Finset.univ fun c : Dev nD => bigSep Finset.univ fun p : Dev nD => (dutyTok ER (copyCell c (3, p)) 0 0 : sProp 𝕄))
      = bigSep Finset.univ fun c : Dev nD => bigSep Finset.univ fun p : Dev nD => dutyTok ER (copyCell p (3, c)) 0 0 := bigSep_univ_comm _
  have hin : (bigSep Finset.univ fun c : Dev nD => toks (F := F) c)
      = iprop((bigSep Finset.univ fun c : Dev nD => bigSep Finset.univ fun p : Dev nD => (dutyTok ER (barCell p) 0 c : sProp 𝕄))
        ∗ (bigSep Finset.univ fun c : Dev nD => bigSep Finset.univ fun d : Fin 8 => dutyTok ER (copyCell c (0, d)) 0 0)
        ∗ (bigSep Finset.univ fun c : Dev nD => bigSep Finset.univ fun d : Fin 8 => dutyTok ER (copyCell (c + d) (1, c)) 0 0)
        ∗ (bigSep Finset.univ fun c : Dev nD => bigSep Finset.univ fun p : Dev nD => dutyTok ER (copyCell c (2, p)) 0 0)
        ∗ bigSep Finset.univ fun c : Dev nD => bigSep Finset.univ fun p : Dev nD => dutyTok ER (copyCell p (3, c)) 0 0) := by
    unfold toks
    rw [bigSep_sep', hb, bigSep_congr (s := Finset.univ) (fun (c : Dev nD) _ => four (fun ak => (dutyTok ER (copyCell c ak) 0 0 : sProp 𝕄))),
      bigSep_sep', bigSep_sep', bigSep_sep', ← hq, ← ha]
  have hs : ∀ c t : Dev nD, ∀ ak bk, iprop(dutyTok ER (copyCell c ak) 0 0 ∗ dutyTok ER (copyCell t bk) 0 0) ⊢ sendTok (F := F) c t ak bk :=
    fun c t ak bk => Entails.refl _
  rw [hin]
  unfold payToks
  rw [bigSep_sep', bigSep_sep']
  iintro ⟨HB, H0, H1, H2, H3⟩
  isplitl [HB]
  · iapply (show (bigSep Finset.univ fun c : Dev nD => bigSep Finset.univ fun p : Dev nD => (dutyTok ER (barCell p) 0 c : sProp 𝕄)) ⊢
      bigSep Finset.univ fun c : Dev nD => bigSep Finset.univ fun p : Dev nD => signalTok c p from
        bigSep_mono fun c _ => bigSep_mono fun p _ => drop_if _)
    iexact HB
  isplitl [H2 H3]
  · iapply (show iprop((bigSep Finset.univ fun c : Dev nD => bigSep Finset.univ fun p : Dev nD => (dutyTok ER (copyCell c (2, p)) 0 0 : sProp 𝕄))
        ∗ bigSep Finset.univ fun c : Dev nD => bigSep Finset.univ fun p : Dev nD => dutyTok ER (copyCell p (3, c)) 0 0) ⊢
      bigSep Finset.univ fun c : Dev nD => bigSep Finset.univ fun p : Dev nD => maxTok c p from by
        rw [← bigSep_sep']
        refine bigSep_mono fun c _ => ?_
        rw [← bigSep_sep']
        exact bigSep_mono fun p _ => (hs c p _ _).trans (drop_if _))
    iframe H2 H3
  · iapply (show iprop((bigSep Finset.univ fun c : Dev nD => bigSep Finset.univ fun d : Fin 8 => (dutyTok ER (copyCell c (0, d)) 0 0 : sProp 𝕄))
        ∗ bigSep Finset.univ fun c : Dev nD => bigSep Finset.univ fun d : Fin 8 => dutyTok ER (copyCell (c + d) (1, c)) 0 0) ⊢
      bigSep Finset.univ fun c : Dev nD => bigSep Finset.univ fun d : Fin 8 => chunkTok c d from by
        rw [← bigSep_sep']
        refine bigSep_mono fun c _ => ?_
        rw [← bigSep_sep']
        exact bigSep_mono fun d _ => (hs c (c + d) _ _).trans (drop_if _))
    iframe H0 H1

/-- What the launch mints for device `c`. -/
def G (c : Dev nD) : sProp 𝕄 :=
  iprop((bigSep Finset.univ fun k : KIx => roundState ER (plan X W) (kcell (c, k)) 0)
    ∗ (bigSep Finset.univ fun k : KIx => atPos ER (kcell (c, k)) 0 ∅ 0) ∗ (bigSep Finset.univ fun k : KIx => reached ER (kcell (c, k)) 0) ∗ toks c)

theorem mint : BI.own (ER (initOf planCells planToks)) ⊢ (|==> bigSep Finset.univ (G X W) : sProp 𝕄) := by
  have hX (Φ : GSem nD τ sig → sProp 𝕄) : bigSep planCells Φ = bigSep Finset.univ fun c : Dev nD => bigSep Finset.univ fun k : KIx => Φ (kcell (c, k)) := by
    unfold planCells; rw [bigSep_map, bigSep_univ_prod]; rfl
  have hT : bigSep planToks (fun x => (dutyTok ER x.1 x.2.1 x.2.2 : sProp 𝕄)) = bigSep Finset.univ fun c : Dev nD => toks c := by
    unfold planToks; rw [bigSep_map, bigSep_univ_prod]
    exact bigSep_congr fun c _ => by unfold toks; rw [bigSep_univ_sum]; rfl
  unfold G
  rw [bigSep_sep', bigSep_sep', bigSep_sep', ← hX (fun g => roundState ER (plan X W) g 0), ← hX (fun g => atPos ER g 0 ∅ 0), ← hX (fun g => reached ER g 0), ← hT]
  iintro HX
  imod (Rounds.fund ER (plan X W) planCells planToks) $$ HX with ⟨Hst, Hr, Hat, Htok⟩
  imodintro
  iframe Hst Hr Hat Htok

/-! ## The cells opened and the tokens handed round -/

/-- What every device then knows but the levels; and what device `c` holds of its own. -/
def opened (K : Dev nD × KIx → ℕ) : sProp 𝕄 :=
  iprop((bigSep Finset.univ fun ck : Dev nD × KIx => cellInv ER (plan X W) (K ck) (kcell ck))
    ∗ bigSep Finset.univ fun ck : Dev nD × KIx => reached ER (kcell ck) 0)
instance opened_persistent (K : Dev nD × KIx → ℕ) : BI.Persistent (opened X W K) := by unfold opened; infer_instance
def mine (c : Dev nD) : sProp 𝕄 := iprop((bigSep Finset.univ fun k : KIx => atPos ER (kcell (c, k)) 0 ∅ 0) ∗ payToks c)
def G' (c : Dev nD) : sProp 𝕄 := iprop(∃ K, opened X W K ∗ mine c)

theorem unscoped_eq (c : Dev nD) : (unscopedSems0 c : sProp 𝕄) = semVal (barCell c) 0 := by
  unfold unscopedSems0; rw [bigSep_eq_bigSepL_of_eq [SemLoc.reg barS] (by decide) (by decide)]; rfl
theorem sems_eq (c : Dev nD) : iprop(unscopedSems0 c ∗ Pipeline.ownSems0 (Ix := Unit) (Name := ℕ) (U := UU) (Lvl := ℕ) (Val := Elt F) (τ := τ) osem c)
    = (bigSep Finset.univ fun k : KIx => semVal (kcell (c, k)) 0 : sProp 𝕄) := by
  rw [unscoped_eq, bigSep_univ_sum, bigSep_univ_of_subsingleton ()]; rfl

theorem open_cells (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : KIx => iprop(∃ κ : ℕ, cellInv ER (plan X W) κ (kcell (c, k))))
          ∗ (bigSep Finset.univ fun k : KIx => reached ER (kcell (c, k)) 0) ∗ (bigSep Finset.univ fun k : KIx => atPos ER (kcell (c, k)) 0 ∅ 0) ∗ toks c) := by
  unfold G
  iintro ⟨Hos, Hus, Hst, Hat, Hr, Htok⟩
  ihave Hv := (Entails.of_eq (sems_eq (F := F) c)) $$ [Hos Hus]
  · iframe Hos Hus
  imod (show iprop((bigSep Finset.univ fun k : KIx => semVal (kcell (c, k)) 0) ∗ bigSep Finset.univ fun k : KIx => roundState ER (plan X W) (kcell (c, k)) 0)
      ⊢ (|={Set.univ}=> bigSep Finset.univ fun k : KIx => iprop(∃ κ : ℕ, cellInv ER (plan X W) κ (kcell (c, k))) : sProp 𝕄) from by
        rw [← bigSep_sep']
        exact (bigSep_mono fun k _ => (Rounds.body_intro ER (plan X W) (kcell (c, k))).trans inv_alloc).trans (bigSep_fupd _ _)) $$ [Hv Hst] with Hinv
  · iframe Hv Hst
  imodintro
  iframe Hinv Hr Hat Htok

theorem with_opened {S : Finset (Dev nD)} {R : sProp 𝕄} [BI.Persistent R] {Φ Ψ : Dev nD → sProp 𝕄} (h : ∀ i ∈ S, iprop(R ∗ Φ i) ⊢ Ψ i) :
    iprop(R ∗ bigSep S Φ) ⊢ bigSep S Ψ :=
  (sep_mono_left (BI.bigSep_of_persistent S R)).trans (by rw [← bigSep_sep']; exact bigSep_mono h)

theorem regroup : (bigSep Finset.univ fun c : Dev nD => iprop((bigSep Finset.univ fun k : KIx => iprop(∃ κ : ℕ, cellInv ER (plan X W) κ (kcell (c, k))))
          ∗ (bigSep Finset.univ fun k : KIx => reached ER (kcell (c, k)) 0) ∗ (bigSep Finset.univ fun k : KIx => atPos ER (kcell (c, k)) 0 ∅ 0) ∗ toks c) : sProp 𝕄)
    ⊢ bigSep Finset.univ (G' X W) := by
  rw [bigSep_sep', bigSep_sep', bigSep_sep', ← bigSep_univ_prod (fun ck : Dev nD × KIx => iprop(∃ κ : ℕ, cellInv ER (plan X W) κ (kcell ck))),
    ← bigSep_univ_prod (fun ck : Dev nD × KIx => (reached ER (kcell ck) 0 : sProp 𝕄))]
  iintro ⟨HI, #HR, Hat, Htok⟩
  ihave HK := (BI.bigSep_exists_pi Finset.univ (fun (ck : Dev nD × KIx) (κ : ℕ) => (cellInv ER (plan X W) κ (kcell ck) : sProp 𝕄))) $$ HI
  icases HK with ⟨%K, #HI⟩
  ihave Htk := (toks_around (F := F)) $$ Htok
  iapply (with_opened (R := opened X W K) (Φ := mine) fun c _ => show _ ⊢ G' X W c from by unfold G'; iintro H; iexists K; iexact H)
  isplitr
  · unfold opened
    isplitr
    · iexact HI
    · iexact HR
  · unfold mine
    rw [bigSep_sep']
    iframe Hat Htk

theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => open_cells X W c).trans (bigSep_fupd _ _)).trans (BI.fupd_mono (regroup X W))

/-! ## The credits -/

theorem rest_all (f : Fin 8 → CellTallies nD τ sig Unit) (g : GSem nD τ sig) : rest f 0 g () = ∑ p, f p g () := by
  unfold rest
  rw [Finset.sum_apply, Finsupp.finset_sum_apply]
  exact Finset.sum_congr rfl fun p _ => by rw [if_pos (Nat.zero_le _)]
theorem tally_if {P : Prop} [Decidable P] (g g' : GSem nD τ sig) (n : ℕ) :
    (if P then 0 else tallyAt g' () n : CellTallies nD τ sig Unit) g () = if P then 0 else if g = g' then n else 0 := by
  split
  · rfl
  · rw [tallyAt_apply]; exact if_congr (and_iff_left rfl) rfl rfl

/-- What device `d` owes at a cell. -/
theorem due_at (d : Dev nD) (g : GSem nD τ sig) : due d 0 0 0 g ()
    = (∑ q : Fin 8, if q = 0 then 0 else if g = copyCell (d + q) (1, d) then Nq else 0)
      + (∑ p : Dev nD, if p = d then 0 else if g = copyCell p (3, d) then Na else 0) + ∑ p : Dev nD, if p = d then 0 else if g = barCell p then 1 else 0 := by
  unfold due
  rw [Pi.add_apply, Finsupp.add_apply, Pi.add_apply, Finsupp.add_apply, rest_all, rest_all, rest_all]
  unfold dueChunk dueMax dueBar
  simp only [tally_if]

theorem sum_none (P : Fin 8 → Prop) [DecidablePred P] (R : Fin 8 → Prop) [DecidablePred R] (n : ℕ) (h : ∀ p, ¬ R p) :
    (∑ p : Fin 8, if P p then 0 else if R p then n else 0) = 0 :=
  Finset.sum_eq_zero fun p _ => by rw [if_neg (h p), ite_self]
/-- One device at one step owes: the sum over all is what that one owes. -/
theorem sum_one (P R : Fin 8 → Fin 8 → Prop) [∀ d p, Decidable (P d p)] [∀ d p, Decidable (R d p)] (n : ℕ) (d₀ p₀ : Fin 8)
    (hR : ∀ d p, R d p ↔ d = d₀ ∧ p = p₀) (hP : ¬ P d₀ p₀) : (∑ d : Fin 8, ∑ p : Fin 8, if P d p then 0 else if R d p then n else 0) = n := by
  rw [Finset.sum_eq_single d₀ (fun d _ hd => sum_none _ _ _ fun p hp => hd ((hR d p).mp hp).1) (fun h => absurd (Finset.mem_univ _) h),
    Finset.sum_eq_single p₀ (fun p _ hp => by rw [if_neg fun h => hp ((hR d₀ p).mp h).2, ite_self]) (fun h => absurd (Finset.mem_univ _) h),
    if_neg hP, if_pos ((hR d₀ p₀).mpr ⟨rfl, rfl⟩)]

theorem cell_iff (a b : Dev nD) (i j : KIx) : kcell (a, i) = kcell (b, j) ↔ a = b ∧ i = j :=
  ⟨fun h => by have := kcell_injective h; exact Prod.mk.inj this, fun h => by rw [h.1, h.2]⟩

theorem total_bar (c : Dev nD) : ∑ d : Dev nD, due d 0 0 0 (barCell c) () = 7 := by
  have h : ∀ d : Dev nD, due d 0 0 0 (barCell c) () = ∑ p : Fin 8, if p = d then 0 else if c = p then 1 else 0 := fun d => by
    rw [due_at, sum_none _ _ _ fun p hp => absurd ((cell_iff c _ (.inl ()) (.inr _)).mp hp).2 (by simp),
      sum_none _ _ _ fun p hp => absurd ((cell_iff c _ (.inl ()) (.inr _)).mp hp).2 (by simp), zero_add, zero_add]
    exact Finset.sum_congr rfl fun p _ => if_congr Iff.rfl rfl (if_congr ((cell_iff c p (.inl ()) (.inl ())).trans (and_iff_left rfl)) rfl rfl)
  rw [Finset.sum_congr rfl fun d _ => h d]
  clear h; revert c; decide

theorem total_max (c s : Dev nD) (hs : s ≠ c) : ∑ d : Dev nD, due d 0 0 0 (copyCell c (3, s)) () = Na := by
  have h : ∀ d : Dev nD, due d 0 0 0 (copyCell c (3, s)) () = ∑ p : Dev nD, if p = d then 0 else if copyCell c (3, s) = copyCell p (3, d) then Na else 0 := fun d => by
    rw [due_at, sum_none _ _ _ fun p hp => absurd ((cell_iff c _ (.inr (3, s)) (.inr _)).mp hp).2 (by simp),
      sum_none (fun p => p = d) (fun p => copyCell c (3, s) = barCell p) _ fun p hp => absurd ((cell_iff c _ (.inr _) (.inl ())).mp hp).2 (by simp), zero_add, add_zero]
  rw [Finset.sum_congr rfl fun d _ => h d]
  refine sum_one (fun d p => p = d) _ _ s c (fun d p => (cell_iff c p (.inr (3, s)) (.inr (3, d))).trans ?_) hs.symm
  constructor
  · rintro ⟨rfl, h⟩; exact ⟨(congrArg Prod.snd (Sum.inr.inj h)).symm, rfl⟩
  · rintro ⟨rfl, rfl⟩; exact ⟨rfl, rfl⟩

theorem total_chunk (c s : Dev nD) (hs : s ≠ c) : ∑ d : Dev nD, due d 0 0 0 (copyCell c (1, s)) () = Nq := by
  have h : ∀ d : Dev nD, due d 0 0 0 (copyCell c (1, s)) () = ∑ q : Fin 8, if q = 0 then 0 else if copyCell c (1, s) = copyCell (d + q) (1, d) then Nq else 0 := fun d => by
    rw [due_at, sum_none (fun p => p = d) _ _ fun p hp => absurd ((cell_iff c _ (.inr (1, s)) (.inr _)).mp hp).2 (by simp),
      sum_none (fun p => p = d) (fun p => copyCell c (1, s) = barCell p) _ fun p hp => absurd ((cell_iff c _ (.inr _) (.inl ())).mp hp).2 (by simp), add_zero, add_zero]
  rw [Finset.sum_congr rfl fun d _ => h d]
  refine sum_one (fun d q => q = 0) _ _ s (c - s) (fun d q => (cell_iff c (d + q) (.inr (1, s)) (.inr (1, d))).trans ?_) (by clear h; revert c s; decide)
  have hq : ∀ c d q : Fin 8, c = d + q ↔ q = c - d := by decide
  constructor
  · rintro ⟨h1, h⟩
    have hd : d = s := (congrArg Prod.snd (Sum.inr.inj h)).symm
    exact ⟨hd, hd ▸ (hq c d q).mp h1⟩
  · rintro ⟨rfl, h⟩; exact ⟨(hq c d q).mpr h, rfl⟩

theorem launched {g : GSem nD τ sig} {n : ℕ} (h : ∑ d : Dev nD, due d 0 0 0 g () = n) :
    tallyOn g (launchCredit (Pipeline.owing fun d => due d 0 0 0) 0 g) = (tallyAt g () n : CellTallies nD τ sig Unit) := by
  unfold tallyAt; refine congrArg _ (Finsupp.ext fun u => ?_); cases u
  rw [Pipeline.launchCredit_owing, Finsupp.single_eq_same, h]

/-- The credit the launch deals device `c` at a semaphore. -/
def credAt (c : Dev nD) (sm : SemLoc sig) : sProp 𝕄 :=
  cred (tallyOn ((c : Thread nD τ), sm) (launchCredit (Pipeline.owing fun d => due d 0 0 0) 0 ((c : Thread nD τ), sm)))

theorem creds (c : Dev nD) : (Pipeline.launchCred (fun d => due d 0 0 0) c : sProp 𝕄)
    ⊢ iprop(cred (tallyAt (barCell c) () 7) ∗ (bigSep Finset.univ fun s => waitCred c (1, s)) ∗ bigSep Finset.univ fun s => waitCred c (3, s)) := by
  show bigSep Finset.univ (credAt (F := F) c) ⊢ _
  have hall : bigSep Finset.univ (credAt (F := F) c) ⊢ iprop(credAt c (.reg barS) ∗ (bigSep Finset.univ fun k => credAt c (osem (0, k)))
      ∗ (bigSep Finset.univ fun k => credAt c (osem (1, k))) ∗ (bigSep Finset.univ fun k => credAt c (osem (2, k))) ∗ bigSep Finset.univ fun k => credAt c (osem (3, k))) :=
    (show bigSep Finset.univ (credAt (F := F) c) ⊢ bigSep (Finset.univ.map ⟨csem, csem_injective⟩) (credAt c) from bigSep_subset (Finset.subset_univ _)).trans
      (Entails.of_eq ((bigSep_map _).trans (byName fun i => credAt c (csem i))))
  have hone : ∀ (a : Fin 4) (s : Fin 8), (s ≠ c → ∑ d : Dev nD, due d 0 0 0 (copyCell c (a, s)) () = worth a) → a ≠ 0 →
      credAt (F := F) c (osem (a, s)) ⊢ waitCred c (a, s) := fun a s h ha => by
    have hid : idle c (a, s) ↔ s = c := by unfold idle; exact iff_of_eq (if_neg ha)
    unfold waitCred credAt
    by_cases hs : s = c
    · rw [if_pos (hid.mpr hs)]; iintro -; iempintro
    · rw [if_neg fun h' => hs (hid.mp h'), launched (h hs)]
  iintro H
  ihave H := hall $$ H
  icases H with ⟨HB, -, H1, -, H3⟩
  isplitl [HB]
  · unfold credAt; iapply (Entails.of_eq (congrArg cred (launched (total_bar c)))); iexact HB
  isplitl [H1]
  · iapply (show (bigSep Finset.univ fun s : Fin 8 => credAt (F := F) c (osem (1, s))) ⊢ _ from
      bigSep_mono fun s _ => hone 1 s (total_chunk c s) (by decide))
    iexact H1
  · iapply (show (bigSep Finset.univ fun s : Fin 8 => credAt (F := F) c (osem (3, s))) ⊢ _ from
      bigSep_mono fun s _ => hone 3 s (total_max c s) (by decide))
    iexact H3

end Cert.KernelProof
-- ==== Proof.Launch.lean ====
/- The launch on all devices: the body on each from what the launch deals it, and the run of the whole program. -/
module

public import proofs.«01_k».proof.Proof.Deal
public import Idealize.ShloMosaic.Lib.Pipeline.CollectiveSegs

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers taken apart and put together -/

section Pieces
variable {sp : Space} {sh : Shape} {e : EltTy} {size : Fin sh.rank → ℕ} (M : Memref sig .tc sp sh e) (T : Tiles sh size) (c : Dev nD)

theorem scatter : iprop(∃ f, held (F := F) M c f) ⊢ bigSep Finset.univ fun s => iprop(∃ f, piece M T c s f) := by
  iintro ⟨%f, H⟩
  iapply (show (bigSep Finset.univ fun s => piece (F := F) M T c s f) ⊢ bigSep Finset.univ fun s => iprop(∃ f, piece M T c s f) from
    bigSep_mono fun s _ => show piece (F := F) M T c s f ⊢ iprop(∃ f, piece M T c s f) from by iintro H; iexists f; iexact H)
  iapply (Entails.of_eq (slots_split M T c f)); iexact H

/-- Pieces all but one of which are what a family gives, and the one. -/
theorem fill {Φ Ψ : Fin 8 → sProp 𝕄} (i : Fin 8) (h : ∀ d, d ≠ i → Φ d ⊢ Ψ d) : iprop(bigSep Finset.univ Φ ∗ Ψ i) ⊢ bigSep Finset.univ Ψ := by
  rw [pick Φ i, pick Ψ i]
  iintro ⟨⟨-, H⟩, Hi⟩
  isplitl [Hi]; · iexact Hi
  iapply (show bigSep (Finset.univ.erase i) Φ ⊢ bigSep (Finset.univ.erase i) Ψ from bigSep_mono fun d hd => h d (Finset.ne_of_mem_erase hd))
  iexact H

end Pieces

theorem held_whole (b : Ref sig .tc) (c : Dev nD) (f : Buf (Elt F) ((c : Thread nD τ).loc b)) :
    ((((c : Thread nD τ).loc b) ↦{fullShare} f : sProp 𝕄)) = held (Memref.whole b) c f := by
  unfold held; simp only [Memref.view_whole, View.set_whole]

section Ends
variable (X : Dev nD → Vec F S512x4096 .bf16) (W : Dev nD → Vec F S4096x2048 .bf16) (c : Dev nD)

/-- What each wait left: the piece, and the semaphore at zero. -/
theorem waits_out (a : Fin 4) : (bigSep Finset.univ fun k => waitOut X W c (a, k))
    = iprop((bigSep Finset.univ fun k : Fin 8 => waitPay X W c (a, k)) ∗ bigSep Finset.univ fun k : Fin 8 => semVal (copyCell c (a, k)) 0) := by
  unfold waitOut; rw [bigSep_sep']
theorem maxes_out : (bigSep Finset.univ fun s => maxOut X W c s)
    = iprop((bigSep Finset.univ fun s => gotMax X W c s) ∗ bigSep Finset.univ fun s : Fin 8 => semVal (copyCell c (3, s)) 0) := by
  unfold maxOut; rw [bigSep_sep']

theorem end_y : (bigSep Finset.univ fun d => yDone X W c d) ⊢ iprop(∃ f, held yM c f) := by
  unfold yDone
  iintro H; iexists (yBuf X W c)
  iapply (Entails.of_eq (slots_split yM qT c (yBuf X W c)).symm); iexact H
theorem end_out : (bigSep Finset.univ fun s => outDone X W c s) ⊢ held oM c (outBuf X W c) := by
  unfold outDone
  exact Entails.of_eq (slots_split oM oT c (outBuf X W c)).symm
theorem end_sent : iprop((bigSep Finset.univ fun d : Fin 8 => waitPay X W c (0, d)) ∗ qTodo c 0) ⊢ iprop(∃ f, held sqM c f) :=
  (fill (Ψ := fun d => iprop(∃ f, piece sqM qT c d f)) 0 fun d hd => by
    unfold waitPay; rw [if_neg (show ¬ idle c (0, d) from hd)]; unfold copyPay
    iintro H; iexists (sendBuf X W c); iexact H).trans (slots_join sqM qT c (sendBuf X W c))
theorem end_received : iprop((bigSep Finset.univ fun s : Fin 8 => waitPay X W c (1, s)) ∗ ∃ f, piece rqM qT c c f) ⊢ iprop(∃ f, held rqM c f) :=
  (fill (Ψ := fun s => iprop(∃ f, piece rqM qT c s f)) c fun d hd => by
    unfold waitPay; rw [if_neg (show ¬ idle c (1, d) from hd)]; unfold copyPay
    iintro H; iexists (recvBuf X W c); iexact H).trans (slots_join rqM qT c (recvBuf X W c))
theorem end_maxes : (bigSep Finset.univ fun s => gotMax X W c s) ⊢ iprop(∃ f, held arM c f) :=
  (show _ ⊢ bigSep Finset.univ fun s => iprop(∃ f, piece arM aT c s f) from bigSep_mono fun s _ => show gotMax X W c s ⊢ iprop(∃ f, piece arM aT c s f) from by
    unfold gotMax; iintro ⟨%g, -, H⟩; iexists g; iexact H).trans (slots_join arM aT c (allMaxBuf X W))
theorem end_max : iprop(maxAt c (Transfers.shareDrop fullShare 8) (ownMaxBuf X W c) ∗ (bigSep Finset.univ fun p => keptShare X W c p)
    ∗ bigSep Finset.univ fun p : Fin 8 => waitPay X W c (2, p)) ⊢ iprop(∃ f, held asM c f) := by
  have h : iprop((bigSep Finset.univ fun p => keptShare X W c p) ∗ bigSep Finset.univ fun p : Fin 8 => waitPay X W c (2, p))
      ⊢ bigSep Finset.univ fun p : Fin 8 => maxAt c (share p) (ownMaxBuf X W c) := by
    rw [← bigSep_sep']
    refine bigSep_mono fun p _ => show iprop(keptShare X W c p ∗ waitPay X W c (2, p)) ⊢ maxAt c (share p) (ownMaxBuf X W c) from ?_
    unfold keptShare waitPay
    by_cases hp : p = c
    · rw [if_pos hp]; iintro ⟨H, -⟩; iexact H
    · rw [if_neg (show ¬ idle c (2, p) from hp)]; unfold copyPay; iintro ⟨-, H⟩; iexact H
  iintro ⟨Hd, Hk, Hw⟩
  iexists (ownMaxBuf X W c)
  iapply (Transfers.pointsTo_toks_join fullShare 8)
  isplitl [Hd]; · iexact Hd
  iapply h
  iframe Hk Hw

end Ends

/-! ## One device -/

variable (m : (ℓ : Loc nD τ sig) → Buf (Elt F) ℓ) (ρ : Dev nD → PrngReg)

/-- The rows and the weights as the run finds them. -/
abbrev X₀ (c : Dev nD) : Vec F S512x4096 .bf16 := m ((c : Thread nD τ).loc main_arg0)
abbrev W₀ (c : Dev nD) : Vec F S4096x2048 .bf16 := m ((c : Thread nD τ).loc main_arg1)

/-- What the launch deals device `c` beside its buffers. -/
def start (c : Dev nD) : sProp 𝕄 :=
  iprop(G' (X₀ m) (W₀ m) c ∗ levAts L lv ∗ cred (tallyAt (barCell c) () 7) ∗ (bigSep Finset.univ fun s => waitCred c (1, s)) ∗ bigSep Finset.univ fun s => waitCred c (3, s))
def before (c : Dev nD) : sProp 𝕄 := iprop(start m c ∗ Pipeline.scopedRest cfg0.spec c)
def after (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => X₀ m c
    | ⟨1, _⟩ => W₀ m c
    | ⟨2, _⟩ => outBuf (X₀ m) (W₀ m) c
  Φ t := match t with
    | ⟨0, _⟩ => before m c
    | ⟨_ + 1, _⟩ => after c
  q _ := fullShare
  owed t := match t with
    | ⟨0, _⟩ => due c 0 0 0
    | ⟨_ + 1, _⟩ => 0

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ held (Memref.whole b) c f) := by
  unfold owns; simp only [Memref.view_whole, View.read_whole]

/-- The window's block is the whole array. -/
theorem read_x (f : main_arg0.ty.Contents (Elt F)) : (win0_0.blk t0_0).view.read (Elt F) f = f :=
  Memref.read_access_unit_zero (Elt F) main_arg0 (funext fun a => by fin_cases a <;> decide) (fun a => by fin_cases a <;> decide) f
theorem read_w (f : main_arg1.ty.Contents (Elt F)) : (win0_1.blk t0_0).view.read (Elt F) f = f :=
  Memref.read_access_unit_zero (Elt F) main_arg1 (funext fun a => by fin_cases a <;> decide) (fun a => by fin_cases a <;> decide) f
theorem read_out (f : main_v1.ty.Contents (Elt F)) : (win0_2.blk t0_0).view.read (Elt F) f = f :=
  Memref.read_access_unit_zero (Elt F) main_v1 (funext fun a => by fin_cases a <;> decide) (fun a => by fin_cases a <;> decide) f

theorem before_x (c : Dev nD) (d) : (dats m 0 c).before (0 : Fin 3) t0_0 d = X₀ m c := by
  unfold Dat.before; rw [if_pos (show (cfg0.win (0 : Fin 3)).fetch t0_0 = true from fetch0_0 t0_0)]; exact read_x (m ((c : Thread nD τ).loc main_arg0))
theorem before_w (c : Dev nD) (d) : (dats m 0 c).before (1 : Fin 3) t0_0 d = W₀ m c := by
  unfold Dat.before; rw [if_pos (show (cfg0.win (1 : Fin 3)).fetch t0_0 = true from fetch0_1 t0_0)]; exact read_w (m ((c : Thread nD τ).loc main_arg1))

abbrev stg (c : Dev nD) (b : Ref sig .tc) (Y : b.ty.Contents (Elt F)) : sProp 𝕄 :=
  iprop(∃ f : Buf (Elt F) ((c : Thread nD τ).loc b), ⌜f = Y⌝ ∗ held (Memref.whole b) c f)

def bodyPre (c : Dev nD) : sProp 𝕄 :=
  iprop(before m c ∗ (dats m 0 c).owesAt () t0_0.castSucc ∗ (∃ d, stg c cc0_stg0_0 ((dats m 0 c).before (0 : Fin 3) t0_0 d))
    ∗ (∃ d, stg c cc0_stg1_0 ((dats m 0 c).before (1 : Fin 3) t0_0 d)) ∗ ∃ d, stg c cc0_stg2_0 ((dats m 0 c).before (2 : Fin 3) t0_0 d))
def bodyPost (c : Dev nD) : sProp 𝕄 :=
  iprop(after c ∗ (dats m 0 c).owesAt () t0_0.succ ∗ stg c cc0_stg0_0 (X₀ m c) ∗ stg c cc0_stg1_0 (W₀ m c) ∗ stg c cc0_stg2_0 (outBuf (X₀ m) (W₀ m) c))

theorem due_start (c : Dev nD) : due c 0 0 0 = due c 0 0 1 := by
  unfold due
  rw [show rest (dueChunk c) 0 = rest (dueChunk c) 1 from (rest_step (dueChunk c) 0).trans (by
    rw [show dueChunk c 0 = 0 from if_pos rfl, add_zero]; rfl)]

theorem scratch_eq (c : Dev nD) : (Pipeline.scopedRest (Ix := Unit) (Name := ℕ) (U := UU) (Lvl := ℕ) (Val := Elt F) cfg0.spec c : sProp 𝕄)
    = iprop((∃ f, held yM c f) ∗ (∃ f, held sqM c f) ∗ (∃ f, held rqM c f) ∗ (∃ f, held asM c f) ∗ ∃ f, held arM c f) := by
  refine (scopedRest0_eq c).trans ?_
  simp only [held_whole]

theorem body_ok (c : Dev nD) : bodyPre m c ⊢ runs c (atBuffers (cc0_body (F := F))) fun _ => bodyPost m c := by
  have hpos : (bigSep Finset.univ fun k : KIx => (atPos ER (kcell (c, k)) 0 ∅ 0 : sProp 𝕄)) = iprop(atPos ER (barCell c) 0 ∅ 0
      ∗ (bigSep Finset.univ fun k : Fin 8 => atPos ER (copyCell c (0, k)) 0 ∅ 0) ∗ (bigSep Finset.univ fun k : Fin 8 => atPos ER (copyCell c (1, k)) 0 ∅ 0)
      ∗ (bigSep Finset.univ fun k : Fin 8 => atPos ER (copyCell c (2, k)) 0 ∅ 0) ∗ bigSep Finset.univ fun k : Fin 8 => atPos ER (copyCell c (3, k)) 0 ∅ 0) :=
    byName _
  have hsig : (bigSep Finset.univ fun p => signalIn (F := F) c p) = iprop(((bigSep Finset.univ fun p => iprop(∃ f, piece arM aT c p f))
      ∗ bigSep Finset.univ fun p => iprop(∃ f, piece rqM qT c p f)) ∗ bigSep Finset.univ fun p => signalTok c p) := by
    rw [← bigSep_sep', ← bigSep_sep']; rfl
  have hwait : ∀ a : Fin 4, (bigSep Finset.univ fun s : Fin 8 => waitIn (F := F) c (a, s)) = iprop((bigSep Finset.univ fun k : Fin 8 => atPos ER (copyCell c (a, k)) 0 ∅ 0)
      ∗ bigSep Finset.univ fun s : Fin 8 => waitCred c (a, s)) := fun a => by rw [← bigSep_sep']; rfl
  have hown : (Pipeline.ownSems0 (Ix := Unit) (Name := ℕ) (U := UU) (Lvl := ℕ) (Val := Elt F) (τ := τ) osem c : sProp 𝕄)
      = iprop((bigSep Finset.univ fun k : Fin 8 => semVal (copyCell c (0, k)) 0) ∗ (bigSep Finset.univ fun k : Fin 8 => semVal (copyCell c (1, k)) 0)
        ∗ (bigSep Finset.univ fun k : Fin 8 => semVal (copyCell c (2, k)) 0) ∗ bigSep Finset.univ fun k : Fin 8 => semVal (copyCell c (3, k)) 0) := four _
  unfold bodyPre before start G' mine payToks
  rw [scratch_eq, hpos]
  simp only [before_x, before_w]
  iintro ⟨⟨⟨⟨%K, #Hop, ⟨HatB, HatS, HatR, HatM, HatA⟩, HtB, HtM, HtC⟩, #Hlev, HcB, HcR, HcA⟩, Hy, Hsq, Hrq, Has, Har⟩, Ho, ⟨%d0, %g0, %hg0, Hx⟩, ⟨%d1, %g1, %hg1, Hw⟩, ⟨%d2, %g2, %hg2, Hout⟩⟩
  subst hg0; subst hg1
  unfold Dat.owesAt Pipeline.owesWithin
  icases Ho with ⟨%Ws, %hWs, Ho⟩
  ihave #HK := (show iprop(opened (X₀ m) (W₀ m) K ∗ levAts L lv) ⊢ known (X₀ m) (W₀ m) K from by
    unfold opened known; iintro ⟨⟨H1, H2⟩, H3⟩; iframe H1 H2 H3) $$ []
  · iframe Hop Hlev
  ihave Hy := (scatter yM qT c) $$ Hy
  ihave Hsq := (scatter sqM qT c) $$ Hsq
  ihave Hrq := (scatter rqM qT c) $$ Hrq
  ihave Har := (scatter arM aT c) $$ Har
  ihave Hout := (scatter oM oT c) $$ [Hout]
  · iexists g2; iexact Hout
  iapply (body_runs (X₀ m) (W₀ m) K c) $$ HK [Har Hrq HtB] HatB HcB [Ho] Hx Hw Hy Hsq Hout Has HtM HtC HatS [HatR HcR] HatM [HatA HcA]
  · rw [hsig]; iframe Har Hrq HtB
  · unfold owing; iexists Ws; rw [← due_start]; iexact Ho
  · rw [hwait]; iframe HatR HcR
  · rw [hwait]; iframe HatA HcA
  iintro Hx Hw Hout Ho HzB Hy Hq0 Hr0 Hdrop Hkept Hz0 Hz1 Hz2 Hz3
  ihave Hz0 := (Entails.of_eq (waits_out (X₀ m) (W₀ m) c 0)) $$ Hz0
  icases Hz0 with ⟨Hp0, Hz0⟩
  ihave Hz1 := (Entails.of_eq (waits_out (X₀ m) (W₀ m) c 1)) $$ Hz1
  icases Hz1 with ⟨Hp1, Hz1⟩
  ihave Hz2 := (Entails.of_eq (waits_out (X₀ m) (W₀ m) c 2)) $$ Hz2
  icases Hz2 with ⟨Hp2, Hz2⟩
  ihave Hz3 := (Entails.of_eq (maxes_out (X₀ m) (W₀ m) c)) $$ Hz3
  icases Hz3 with ⟨Hp3, Hz3⟩
  ihave Hout := (end_out (X₀ m) (W₀ m) c) $$ Hout
  unfold bodyPost after owing
  rw [scratch_eq, unscoped_eq, hown]
  isplitl [HzB Hz0 Hz1 Hz2 Hz3 Hy Hq0 Hp0 Hr0 Hp1 Hdrop Hkept Hp2 Hp3]
  · isplitl [HzB]; · iexact HzB
    isplitl [Hz0 Hz1 Hz2 Hz3]; · iframe Hz0 Hz1 Hz2 Hz3
    isplitl [Hy]; · iapply (end_y (X₀ m) (W₀ m) c); iexact Hy
    isplitl [Hq0 Hp0]; · iapply (end_sent (X₀ m) (W₀ m) c); iframe Hp0 Hq0
    isplitl [Hr0 Hp1]; · iapply (end_received (X₀ m) (W₀ m) c); iframe Hp1 Hr0
    isplitl [Hdrop Hkept Hp2]; · iapply (end_max (X₀ m) (W₀ m) c); iframe Hdrop Hkept Hp2
    iapply (end_maxes (X₀ m) (W₀ m) c); iexact Hp3
  isplitl [Ho]
  · unfold Dat.owesAt Pipeline.owesWithin
    icases Ho with ⟨%Ws', Ho⟩
    iexists Ws'
    isplitr; · ipureintro; exact fun _ _ => Or.inl trivial
    rw [due_end]; iexact Ho
  isplitl [Hx]; · iexists (X₀ m c); isplitr; · ipureintro; rfl
                  iexact Hx
  isplitl [Hw]; · iexists (W₀ m c); isplitr; · ipureintro; rfl
                  iexact Hw
  iexists (outBuf (X₀ m) (W₀ m) c); isplitr; · ipureintro; rfl
  iexact Hout

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole]
  exact body_ok m c

/-! ## All devices -/

theorem start_intro (c : Dev nD) :
    iprop(Pipeline.unscopedRestP Pipeline.Prefetch.none cfg0.spec c (fun b => m ((c : Thread nD τ).loc b)) ∗ levAts L lv
        ∗ Pipeline.launchCred (fun d => due d 0 0 0) c ∗ prngReg c (ρ c) ∗ G' (X₀ m) (W₀ m) c)
      ⊢ |={Set.univ}=> iprop(start m c ∗ emp) := by
  iintro ⟨-, Hlev, Hcr, -, HG⟩
  ihave Hc := (creds (F := F) c) $$ Hcr
  icases Hc with ⟨HB, H1, H3⟩
  imodintro
  unfold start
  isplitl
  · iframe HG Hlev HB H1 H3
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  iframe Hs Hr

theorem after_exit (c : Dev nD) : (dats m 0 c).Φ (Fin.last cfg0.N) ⊢ iprop(unscopedSems0 c ∗ Pipeline.ownSems0 osem c ∗ Pipeline.scopedRest cfg0.spec c) :=
  Entails.of_eq rfl

theorem own_sems : Pipeline.OwnSemFacts cfg0.spec osem := by decide
theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    have hlv : lv ((c : Thread nD τ), .dma ((cfg0.win w).sem s)) () = 0 := by fin_cases w <;> fin_cases s <;> clear t <;> revert c <;> decide
    rcases t with ⟨_ | _, ht⟩
    · exact mayWait hlv.le fun g hg => (due_pos hg).2.1
    · rw [show (dats m 0 c).owed ⟨_ + 1, ht⟩ = 0 from rfl, MayWait_zero]; iintro -; iempintro

/-- What every array holds at the end. -/
def finalA (c : Dev nD) (w : Fin cfg0.W) : Buf (Elt F) ((cfg0.win w).arr.view.loc (c : Thread nD τ)) := (dats m 0 c).arrAt w cfg0.N

set_option maxRecDepth 8000 in
theorem run_arrays : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_sems (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => due d 0 0 0) (howed₀ := fun _ => rfl) (howedN := fun _ => rfl)
    (L := L) (lv := lv) (hL := L_of_ne) (hwaits := waits m)
    (G := G (X₀ m) (W₀ m)) (G' := G' (X₀ m) (W₀ m)) (u₀ := u₀)
    (hu₀ := by
      unfold u₀
      iintro Hu
      ihave H := (ownU_pair _ _) $$ Hu
      icases H with ⟨HP, HX⟩
      imod (mint (X₀ m) (W₀ m)) $$ HX with HG
      imodintro
      isplitl [HP] <;> iassumption)
    (hglob := glob (X₀ m) (W₀ m))
    (hA := fun _ _ => rfl) (hpf := fun _ k => k.elim0)
    (X := start m) (Y := fun c => unscopedSems0 c) (Z := fun _ => iprop(emp))
    (hX := start_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_out (c : Dev nD) : finalA m c (2 : Fin 3) = outBuf (X₀ m) (W₀ m) c := by
  have h : (win0_2.blk t0_0).view.read (Elt F) (finalA m c (2 : Fin 3)) = outBuf (X₀ m) (W₀ m) c := by
    unfold finalA
    rw [show cfg0.N = (t0_0 : Fin cfg0.N).val + 1 from rfl, (dats m 0 c).arrAt_succ (2 : Fin 3) t0_0, if_pos (flush0_2 t0_0)]
    exact View.read_write_univ _ _
  rwa [read_out] at h

/-- From any memory, at any float values: every execution ends, with each device's result at the contents computed
    from all devices' rows and weights, those unchanged, and every semaphore at zero. -/
theorem run_main : θ_run defs (onTc (τ := τ) (main (F := F))) ⟨m, fun _ => 0, ρ⟩ (fun r =>
    (∀ c : Dev nD, r.2.mem ((c.tc : Thread nD τ).loc main_v1) = outBuf (X₀ m) (W₀ m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c 2).trans (final_out m c),
    (h.1 c 0).trans ((dats m 0 c).arrAt_in (0 : Fin 3) rfl _), (h.1 c 1).trans ((dats m 0 c).arrAt_in (1 : Fin 3) rfl _)⟩, h.2⟩) (run_arrays m ρ)

theorem frame_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

end Cert.KernelProof
-- ==== Proof.Frames.lean ====
/- The three programs run to an end with their arguments unchanged and every semaphore at zero. The kernel's run is
   proved once over any float values; both of its frames are that run. -/
module

public import proofs.«01_k».proof.Defs
public import proofs.«01_k».proof.Proof.Gen.Kernel
public import proofs.«01_k».proof.Proof.Launch
public import proofs.«01_k».proof.Proof.Gen.ReferenceIdeal.Frame

@[expose] public section

noncomputable section

namespace Cert.Proof

open Idealize.ShloMosaic Idealize.SL.Sem

variable {F : FTy → Type} [FloatOps F]

local instance : Cert.Kernel.Facts := Cert.Kernel.Gen.facts
local instance : Cert.KernelIdeal.Facts := Cert.KernelIdeal.Gen.facts
local instance : Cert.ReferenceIdeal.Facts := Cert.ReferenceIdeal.Gen.facts

/-- Both programs of the kernel have the same body behind their one label. -/
theorem bodies_eq : Cert.Kernel.defs₀ (F := F) = Cert.KernelIdeal.defs₀ := by
  refine congrArg Defs.onTc (funext fun l => funext fun a => ?_)
  obtain ⟨l, hl⟩ := l
  cases l with
  | zero => rcases a with ⟨t, s⟩; rfl
  | succ n => exact absurd hl (by omega)

/-- Both programs of the kernel have the same table of bodies. -/
theorem tables_eq : Cert.Kernel.defs (F := F) = Cert.KernelIdeal.defs :=
  congrArg (Pipeline.defs Cert.KernelIdeal.pcfgs) bodies_eq

/-- The kernel with every operation exact runs to an end. -/
theorem frame_kernelIdeal : Cert.quiescent_KernelIdeal := fun m ρ _ =>
  Cert.KernelProof.frame_main (F := Ideal) m ρ

/-- The kernel as it runs on the machine's floats: the same run. -/
theorem frame_kernel : Cert.quiescent_Kernel := fun m ρ _ => by
  rw [tables_eq]
  exact Cert.KernelProof.frame_main (F := Bits) m ρ

/-- The reference runs to an end. -/
theorem frame_reference : Cert.quiescent_ReferenceIdeal := fun m ρ _ => Cert.ReferenceIdeal.Gen.frame m ρ

end Cert.Proof

end
-- ==== Proof.Quant.lean ====
/- The quantiser over the extended reals, whichever program runs it: scaling by the reciprocal of the step or dividing by
   the step comes to the same, and a reduction to the largest magnitude is bounded by what bounds every magnitude. -/
module

public import Idealize.ShloMosaic.Lib.MatmulPlain
public import Idealize.ShloMosaic.Lib.ValueIdx
public import Idealize.ShloMosaic.Lib.Pipeline.Value

@[expose] public section

noncomputable section

namespace Cert.Quant

open Idealize.ShloMosaic Idealize.ShloMosaic.ValueIdx

/-! ## The largest code, and the two ways to scale -/

/-- The largest magnitude of the format, as the programs spell it, is the real 448. -/
theorem top_code : Ideal.ofBits .f32 0x43E00000#32 = ((448 : ℝ) : EReal) := by
  simp [Ideal.ofBits, Ideal.ieee]
  rw [← EReal.coe_mul]
  norm_num

/-- The word that the maximum starts from is below every extended real. -/
theorem least_word : Ideal.ofBits .f32 0xFF800000#32 = (⊥ : EReal) := by
  simp [Ideal.ofBits, Ideal.ieee]

/-- An extended real kept between the two bounds that the programs spell as words. -/
def clip (v : EReal) : EReal := min (Ideal.ofBits .f32 0x43E00000#32) (max (Ideal.ofBits .f32 0xC3E00000#32) v)

/-- What the reference makes of the entry `y` where the largest magnitude is `g`: divided by the step `g / 448`, clipped, and
    scaled back. -/
def quantised (g y : EReal) : EReal :=
  clip (Ideal.div y (Ideal.div g (Ideal.ofBits .f32 0x43E00000#32))) * Ideal.div g (Ideal.ofBits .f32 0x43E00000#32)

/-- Multiplying by `448 / g` instead of dividing by `g / 448` leaves the result as it is: for `g = 0` both results are zero, for an
    infinite `g` both quotients are, and otherwise the two factors are the same real. -/
theorem scaled_eq (g y : EReal) :
    clip (y * Ideal.div (Ideal.ofBits .f32 0x43E00000#32) g) * Ideal.div g (Ideal.ofBits .f32 0x43E00000#32) = quantised g y := by
  unfold quantised
  rw [top_code]
  have hc : ((448 : ℝ) : EReal) ≠ 0 := by norm_num
  have hd : ∀ x : EReal, Ideal.div x ((448 : ℝ) : EReal) = x * ((448 : ℝ) : EReal)⁻¹ := fun x => if_neg hc
  rw [hd]
  by_cases hg : g = 0
  · rw [hg, zero_mul, mul_zero, mul_zero]
  · have hi : ((448 : ℝ) : EReal)⁻¹ ≠ 0 := by rw [← EReal.coe_inv]; norm_num
    have hs : g * ((448 : ℝ) : EReal)⁻¹ ≠ 0 := mul_ne_zero hg hi
    unfold Ideal.div
    rw [if_neg hg, if_neg hs, EReal.mul_inv, ← EReal.coe_inv, ← EReal.coe_inv, inv_inv, mul_comm g⁻¹]

/-! ## The largest magnitude -/

/-- A reduction of everything to its maximum is at most `b` exactly where every element is. -/
theorem maximum_le {s t : Shape} {axes : List (Fin s.rank)} (h : s.Reduces axes t) (ht : ∀ a, t.size a = 1)
    (src : FVec Ideal s .f32) (hφ : FKind.Formats .f32) (hacc : (0xFF800000#32 : BitVec 32) = FKind.maximumf.neutral .f32 hφ)
    (j : t.Idx) (b : EReal) :
    multiReduction .maximumf axes t src 0xFF800000#32 h hφ hacc j ≤ b ↔ ∀ i, src i ≤ b := by
  rw [multiReduction_maximumf_eq_fold, Finset.filter_true_of_mem fun i _ => funext fun a => Fin.ext (by
    have := (h.drop i a).isLt; have := (j a).isLt; have := ht a; omega)]
  refine (Finset.fold_max_le (f := src) b).trans ?_
  rw [show (FloatOps.ofBits .f32 0xFF800000#32 : Ideal .f32) = (⊥ : EReal) from least_word]
  simp

/-- The programs' largest magnitude of a matrix: absolute values, a leading axis of one, the maximum, its one element. -/
theorem magnitude_le {M N : ℕ} (v : FVec Ideal ⟨2, ![M, N]⟩ .f32) (h₁ : (⟨2, ![M, N]⟩ : Shape).ShapeCasts ⟨3, ![1, M, N]⟩)
    (h₂ : (⟨3, ![1, M, N]⟩ : Shape).Reduces [1, 2] ⟨1, ![1]⟩) (hφ : FKind.Formats .f32)
    (hacc : (0xFF800000#32 : BitVec 32) = FKind.maximumf.neutral .f32 hφ)
    (h₃ : (⟨1, ![1]⟩ : Shape).ShapeCasts ⟨3, ![1, 1, 1]⟩) (h₄ : ∀ a, (![0, 0, 0] : Fin 3 → ℕ) a < (⟨3, ![1, 1, 1]⟩ : Shape).size a) (b : EReal) :
    extractAt ![0, 0, 0] (shapeCast ⟨3, ![1, 1, 1]⟩ (multiReduction .maximumf [1, 2] ⟨1, ![1]⟩ (shapeCast ⟨3, ![1, M, N]⟩ (absf v) h₁)
        0xFF800000#32 h₂ hφ hacc) h₃) h₄ ≤ b
      ↔ ∀ i, max (v i) (-(v i)) ≤ b := by
  refine (maximum_le h₂ (fun a => by revert a; decide) _ hφ hacc _ b).trans ?_
  exact ((Shape.reshapeEquiv h₁).surjective.forall (p := fun i => max (v i) (-(v i)) ≤ b)).symm

/-- A largest magnitude is below `b` exactly where all magnitudes are: two such are equal over the same magnitudes. -/
theorem eq_of_bounds {g g' : EReal} {P : EReal → Prop} (h : ∀ b, g ≤ b ↔ P b) (h' : ∀ b, g' ≤ b ↔ P b) : g = g' :=
  eq_of_forall_ge_iff fun b => (h b).trans (h' b).symm

end Cert.Quant

end
-- ==== Proof.Entries.lean ====
/- The devices' products and maxima over the extended reals: entries of the whole product, and the largest magnitude of
   all of them. -/
module

public import proofs.«01_k».proof.Proof.Maxima
public import proofs.«01_k».proof.Proof.Quant

@[expose] public section

noncomputable section

namespace Cert.KernelProof

open Cert.KernelIdeal Cert.KernelIdeal.Gen Cert.Quant
open Idealize.ShloMosaic Idealize.ShloMosaic.ValueIdx

/-- Row `i` of device `s`'s block of rows, in the whole array; column `j` of its block of columns. -/
def rowOf (s : Dev nD) (i : Fin 512) : Fin 4096 := ⟨512 * s.val + i.val, by have : s.val < 8 := s.isLt; omega⟩
def colOf (s : Dev nD) (j : Fin 256) : Fin 2048 := ⟨256 * s.val + j.val, by have : s.val < 8 := s.isLt; omega⟩

theorem rowOf_all (I : Fin 4096) : ∃ s i, rowOf s i = I :=
  ⟨⟨I.val / 512, by show _ < 8; omega⟩, ⟨I.val % 512, Nat.mod_lt _ (by decide)⟩, Fin.ext (Nat.div_add_mod I.val 512)⟩
theorem colOf_all (J : Fin 2048) : ∃ s j, colOf s j = J :=
  ⟨⟨J.val / 256, by show _ < 8; omega⟩, ⟨J.val % 256, Nat.mod_lt _ (by decide)⟩, Fin.ext (Nat.div_add_mod J.val 256)⟩

/-- A device is the distance to it away. -/
theorem there (s t : Dev nD) : s + (t - s) = t := by revert s t; decide

/-- An entry of the product of the whole arrays. -/
def entry (A : (⟨2, ![4096, 4096]⟩ : Shape).Idx → EReal) (B : (⟨2, ![4096, 2048]⟩ : Shape).Idx → EReal) (I : Fin 4096) (J : Fin 2048) : EReal :=
  ∑ k : Fin 4096, A (ix2 I k) * B (ix2 k J)

/-- `g` is the largest magnitude of the entries: it is at most what they are all at most. -/
def Largest (A : (⟨2, ![4096, 4096]⟩ : Shape).Idx → EReal) (B : (⟨2, ![4096, 2048]⟩ : Shape).Idx → EReal) (g : EReal) : Prop :=
  ∀ b, g ≤ b ↔ ∀ I J, max (entry A B I J) (-(entry A B I J)) ≤ b

variable (X : Dev nD → Vec Ideal S512x4096 .bf16) (W : Dev nD → Vec Ideal S4096x2048 .bf16)
variable (A : (⟨2, ![4096, 4096]⟩ : Shape).Idx → EReal) (B : (⟨2, ![4096, 2048]⟩ : Shape).Idx → EReal)

/-! ## The products -/

theorem dims_plain : dot_S512x4096_S4096x256_S512x256_1_0_0_1_n_n = DotDims.plain 512 4096 256 := rfl

/-- A device's product of a step, at a row and a column. -/
theorem product_apply (x : Vec Ideal S512x4096 .bf16) (w : Vec Ideal S4096x256 .bf16) (i : Fin 512) (j : Fin 256) :
    k0_pay1 x w (ix2 i j) = ∑ k : Fin 4096, x (ix2 i k) * w (ix2 k j) := by
  unfold k0_pay1
  rw [shapeCast_self, shapeCast_self, dims_plain]
  refine (Ideal.matmul_plain_apply none x w _ i j).trans ?_
  rw [show (constant S512x256 .f32 0x00000000#32 : FVec Ideal S512x256 .f32) (ix2 i j) = (0 : EReal) from Ideal.ofBits_zero_f32, zero_add]

/-- The weights of step `d` are the columns of device `s + d`. -/
theorem wd_apply (s : Dev nD) (d : Fin 8) (k : Fin 4096) (j : Fin 256) : wd W s d (ix2 k j) = W s (ix2 k (colOf (s + d) j)) := by
  unfold wd
  refine congrArg (W s) (Shape.idx_ext₂ ?_ ?_)
  · show (k0_off1 s (BitVec.ofNat 32 d.val)) 0 + 1 * k.val = k.val
    rw [k0_off1_eq]
    show 0 + 1 * k.val = k.val
    omega
  · show (k0_off1 s (BitVec.ofNat 32 d.val)) 1 + 1 * j.val = 256 * ((s.val + d.val) % 8) + j.val
    rw [k0_off1_eq]
    show 256 * ((s.val + d.val) % 8) + 1 * j.val = _
    omega

variable (hX : ∀ s i k, X s (ix2 i k) = A (ix2 (rowOf s i) k)) (hW : ∀ s, W s = B)

include hX hW in
/-- A device's product of step `d` holds the entries of its rows and of the columns of the device `d` further on. -/
theorem product_entry (s : Dev nD) (d : Fin 8) (i : Fin 512) (j : Fin 256) :
    k0_pay1 (X s) (wd W s d) (ix2 i j) = entry A B (rowOf s i) (colOf (s + d) j) := by
  rw [product_apply]
  refine Finset.sum_congr rfl fun k _ => ?_
  rw [wd_apply, hX, hW]

include hX hW in
theorem yPay_apply (s : Dev nD) (d : Fin 8) (i : Fin 512) (j : Fin 256) :
    shapeCast S512x256 (yPay X W s d) shapeCasts_S1x512x256_S512x256 (ix2 i j) = entry A B (rowOf s i) (colOf (s + d) j) := by
  unfold yPay k0_pay3
  dsimp only
  rw [shapeCast_shapeCast, product_entry X W A B hX hW]

/-! ## The largest magnitude -/

theorem yMax_le (s : Dev nD) (d : Fin 8) (b : EReal) :
    yMax X W s d ≤ b ↔ ∀ i, max (k0_pay1 (X s) (wd W s d) i) (-(k0_pay1 (X s) (wd W s d) i)) ≤ b := by
  unfold yMax k0_pay2
  exact magnitude_le _ _ _ _ _ _ _ b

section Chain

variable {F : FTy → Type} [FloatOps F] (X : Dev nD → Vec F S512x4096 .bf16) (W : Dev nD → Vec F S4096x2048 .bf16)

/-- The last two products are written out again where the device's maximum is taken: they are products like the others. -/
theorem seventh_product (x : Vec F S512x4096 .bf16) (w : Vec F S4096x256 .bf16) : k0_pay20 (k0_pay19 x) w = k0_pay1 x w := rfl
theorem own_product (x : Vec F S512x4096 .bf16) (w : Vec F S4096x256 .bf16) : k0_pay22 x w = k0_pay1 x w := rfl

/-- A device's maximum is the maximum of its eight steps' maxima. -/
theorem devMax_chain (s : Dev nD) : devMax X W s = Scalar.maximumf (Scalar.maximumf (Scalar.maximumf (Scalar.maximumf (Scalar.maximumf (Scalar.maximumf
    (Scalar.maximumf (yMax X W s 1) (yMax X W s 2)) (yMax X W s 3)) (yMax X W s 4)) (yMax X W s 5)) (yMax X W s 6)) (yMax X W s 7)) (yMax X W s 0) := by
  unfold devMax k0_pay24
  rw [seventh_product, own_product]
  rfl

/-- The maximum of all devices is the maximum of the device's own and of the eight. -/
theorem allMax_chain (c : Dev nD) : allMax X W c = Scalar.maximumf (Scalar.maximumf (Scalar.maximumf (Scalar.maximumf (Scalar.maximumf (Scalar.maximumf
    (Scalar.maximumf (Scalar.maximumf (devMax X W c) (devMax X W 0)) (devMax X W 1)) (devMax X W 2)) (devMax X W 3)) (devMax X W 4)) (devMax X W 5))
    (devMax X W 6)) (devMax X W 7) := by
  rw [allMax_eq]
  rfl

end Chain

/-- A maximum is at most what its operands are both at most. -/
theorem scalar_maximum_le (x y b : EReal) : Scalar.maximumf (F := Ideal) (φ := .f32) x y ≤ b ↔ x ≤ b ∧ y ≤ b := max_le_iff

theorem devMax_le (s : Dev nD) (b : EReal) : devMax X W s ≤ b ↔ ∀ d, yMax X W s d ≤ b := by
  rw [devMax_chain]
  generalize yMax X W s = y
  simp only [scalar_maximum_le]
  refine ⟨fun h d => ?_, fun h => ⟨⟨⟨⟨⟨⟨⟨h 1, h 2⟩, h 3⟩, h 4⟩, h 5⟩, h 6⟩, h 7⟩, h 0⟩⟩
  obtain ⟨⟨⟨⟨⟨⟨⟨h1, h2⟩, h3⟩, h4⟩, h5⟩, h6⟩, h7⟩, h0⟩ := h
  match d with
  | 0 => exact h0
  | 1 => exact h1
  | 2 => exact h2
  | 3 => exact h3
  | 4 => exact h4
  | 5 => exact h5
  | 6 => exact h6
  | 7 => exact h7

theorem allMax_le (c : Dev nD) (b : EReal) : allMax X W c ≤ b ↔ ∀ s, devMax X W s ≤ b := by
  rw [allMax_chain]
  generalize devMax X W = y
  simp only [scalar_maximum_le]
  refine ⟨fun h s => ?_, fun h => ⟨⟨⟨⟨⟨⟨⟨⟨h c, h 0⟩, h 1⟩, h 2⟩, h 3⟩, h 4⟩, h 5⟩, h 6⟩, h 7⟩⟩
  obtain ⟨⟨⟨⟨⟨⟨⟨⟨-, h0⟩, h1⟩, h2⟩, h3⟩, h4⟩, h5⟩, h6⟩, h7⟩ := h
  match s with
  | 0 => exact h0
  | 1 => exact h1
  | 2 => exact h2
  | 3 => exact h3
  | 4 => exact h4
  | 5 => exact h5
  | 6 => exact h6
  | 7 => exact h7

include hX hW in
/-- The maximum that a device gathers is the largest magnitude of all entries. -/
theorem allMax_largest (c : Dev nD) : Largest A B (allMax X W c) := fun b => by
  rw [allMax_le]
  constructor
  · intro h I J
    obtain ⟨s, i, rfl⟩ := rowOf_all I
    obtain ⟨t, j, rfl⟩ := colOf_all J
    have h' := (yMax_le X W s (t - s) b).mp ((devMax_le X W s b).mp (h s) (t - s)) (ix2 i j)
    rwa [product_entry X W A B hX hW, there s t] at h'
  · intro h s
    refine (devMax_le X W s b).mpr fun d => (yMax_le X W s d b).mpr fun i => ?_
    obtain ⟨i, j, rfl⟩ : ∃ (i' : Fin 512) (j' : Fin 256), i = ix2 i' j' := ⟨i 0, i 1, eq_ix2 i⟩
    rw [product_entry X W A B hX hW]
    exact h _ _

end Cert.KernelProof

end
-- ==== Proof.Values.lean ====
/- What the kernel's result holds over the extended reals: at every row and column the entry of the whole product,
   quantised by the largest magnitude of all entries. -/
module

public import proofs.«01_k».proof.Proof.Entries

@[expose] public section

noncomputable section

namespace Cert.KernelProof

open Cert.KernelIdeal Cert.KernelIdeal.Gen Cert.Quant
open Idealize.ShloMosaic Idealize.ShloMosaic.ValueIdx

section Block

variable {F : FTy → Type} [FloatOps F] (X : Dev nD → Vec F S512x4096 .bf16) (W : Dev nD → Vec F S4096x2048 .bf16)

/-- The block that a device keeps goes through the same steps as one that it sends. -/
theorem own_block (st inv : F .f32) (y : Vec F S1x512x256 .f32) : k0_pay39 st inv y = k0_pay47 st (k0_pay32 inv y) := by
  unfold k0_pay39 k0_pay47 k0_pay32
  rw [shapeCast_shapeCast]

theorem outPay_eq (c s : Dev nD) : outPay X W c s = k0_pay47 (stepOf X W c) (k0_pay32 (invOf X W s) (yPay X W s (c - s))) := by
  unfold outPay
  split
  · rename_i h
    subst h
    rw [sub_self, own_block]
  · rfl

end Block

/-- A block that is quantised, sent and scaled back, at a row and a column. -/
theorem block_apply (st inv : EReal) (y : Vec Ideal S1x512x256 .f32) (i : S512x256.Idx) :
    (k0_pay47 (F := Ideal) st (k0_pay32 (F := Ideal) inv y) : FVec Ideal S512x256 .f32) i
      = clip ((shapeCast S512x256 y shapeCasts_S1x512x256_S512x256 : FVec Ideal S512x256 .f32) i * inv) * st := by
  unfold k0_pay47 k0_pay32
  rw [shapeCast_shapeCast]
  rfl

variable (X : Dev nD → Vec Ideal S512x4096 .bf16) (W : Dev nD → Vec Ideal S4096x2048 .bf16)
variable (A : (⟨2, ![4096, 4096]⟩ : Shape).Idx → EReal) (B : (⟨2, ![4096, 2048]⟩ : Shape).Idx → EReal)
variable (hX : ∀ s i k, X s (ix2 i k) = A (ix2 (rowOf s i) k)) (hW : ∀ s, W s = B)

include hX hW in
/-- Device `c`'s result holds, in its own columns, the quantised entries of the whole product. -/
theorem outBuf_apply {g : EReal} (hg : Largest A B g) (c s : Dev nD) (i : Fin 512) (j : Fin 256) :
    outBuf X W c (ix2 (rowOf s i) j) = quantised g (entry A B (rowOf s i) (colOf c j)) := by
  have hm : ∀ c, allMax X W c = g := fun c => eq_of_bounds (allMax_largest X W A B hX hW c) hg
  have hi : (oT.rect s).emb (ix2 i j) = ix2 (rowOf s i) j := Shape.idx_ext₂ (by show 512 * s.val + 1 * i.val = _; rw [one_mul]; rfl)
    (by show 0 + 1 * j.val = _; rw [one_mul, zero_add])
  have h : outBuf X W c (ix2 (rowOf s i) j) = outPay X W c s (ix2 i j) := by
    rw [← hi]; exact oT.glue_emb (outPay X W c) s (ix2 i j)
  rw [h, outPay_eq, stepOf, invOf, hm, hm, block_apply, yPay_apply X W A B hX hW, there]
  exact scaled_eq g _

end Cert.KernelProof

end
-- ==== Proof.RefValues.lean ====
/- What the reference's result holds over the extended reals: at every row and column the entry of the product, quantised by
   the largest magnitude of all entries. -/
module

public import proofs.«01_k».proof.Proof.Entries
public import proofs.«01_k».proof.Proof.Gen.ReferenceIdeal.Frame
public import Idealize.ShloMosaic.Lib.Pipeline.ValueKit.Geometry

@[expose] public section

noncomputable section

namespace Cert.ReferenceProof

open Cert.ReferenceIdeal Cert.ReferenceIdeal.Gen Cert.Quant
open Idealize.ShloMosaic Idealize.ShloMosaic.TcCoe Idealize.ShloMosaic.ValueIdx
open Idealize.SL.Sem

/-! ## The run -/

section Run

variable {F : FTy → Type} [FloatOps F] (m : (ℓ : Loc nD τ sig) → Buf (Elt F) ℓ) (ρ : Dev nD → PrngReg)

/-- Each argument's one block is the whole array. -/
theorem block_arg0 (c : Dev nD) (t : Fin cfg0.N) : iblk m c 0 t = m ((c : Thread nD τ).loc main_arg0) := by
  funext y
  refine congrArg (m ((c : Thread nD τ).loc main_arg0)) (funext fun a => Fin.ext ?_)
  match a with
  | ⟨0, _⟩ => show 0 * 4096 + 1 * (y 0).val = (y 0).val; omega
  | ⟨1, _⟩ => show 0 * 4096 + 1 * (y 1).val = (y 1).val; omega
theorem block_arg1 (c : Dev nD) (t : Fin cfg0.N) : iblk m c 1 t = m ((c : Thread nD τ).loc main_arg1) := by
  funext y
  refine congrArg (m ((c : Thread nD τ).loc main_arg1)) (funext fun a => Fin.ext ?_)
  match a with
  | ⟨0, _⟩ => show 0 * 4096 + 1 * (y 0).val = (y 0).val; omega
  | ⟨1, _⟩ => show 0 * 2048 + 1 * (y 1).val = (y 1).val; omega

theorem zeros : (![0, 0] : Fin 2 → ℕ) = fun _ => 0 := funext fun a => match a with
  | 0 => rfl
  | 1 => rfl

/-- The body leaves the quantised product of the blocks that it reads. -/
theorem left (x : Vec F S4096x4096 .bf16) (w : Vec F S4096x2048 .bf16) : out0_2 x w = k0_pay1 x w := by
  unfold out0_2
  rw [View.canon_unit_zero zeros, View.ld_unit_zero zeros, View.ld_unit_zero zeros]

/-- The result's array ends at the quantised product of the arguments' arrays. -/
theorem ends (c : Dev nD) : (dats m 0 c).arrAt 2 cfg0.N = k0_pay1 (m ((c : Thread nD τ).loc main_arg0)) (m ((c : Thread nD τ).loc main_arg1)) := by
  refine Pipeline.Dat.arrAt_eq_of_after_last (dats m 0 c) 2 ⟨0, by decide⟩ (by decide) _ fun j => ?_
  rw [after0_2, block_arg0, block_arg1, left]
  rfl

/-- The reference ends with its result at the quantised product of its arguments, and with these as they were. -/
theorem run : θ_run defs (onTc (τ := τ) (main (F := F))) ⟨m, fun _ => 0, ρ⟩ (fun r => ∀ c : Dev nD,
    r.2.mem ((c : Thread nD τ).loc main_v0) = k0_pay1 (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨(h.out_eq c 2).trans (ends m c), (h.in_eq c 0 rfl).trans (A_eq m c 0), (h.in_eq c 1 rfl).trans (A_eq m c 1)⟩)
    (run_main m ρ)

end Run

/-! ## The values -/

section Parts

variable {F : FTy → Type} [FloatOps F]

/-- The product, its largest magnitude, and what is made of an array with a given largest magnitude. -/
def product (x : Vec F S4096x4096 .bf16) (w : Vec F S4096x2048 .bf16) : FVec F S4096x2048 .f32 :=
  matmul dot_S4096x4096_S4096x2048_S4096x2048_1_0_0_1_n_n none x w (constant S4096x2048 .f32 0x00000000#32)
def largest (y : FVec F S4096x2048 .f32) : F .f32 :=
  extractAt ![0, 0, 0] (shapeCast S1x1x1 (multiReduction .maximumf [1, 2] S1 (shapeCast S1x4096x2048 (absf y) shapeCasts_S4096x2048_S1x4096x2048)
    0xFF800000#32 reduces_S1x4096x2048_S1 (.inl rfl) rfl) shapeCasts_S1_S1x1x1) inpos_S1x1x1_p0_0_0
def made (g : F .f32) (y : FVec F S4096x2048 .f32) : FVec F S4096x2048 .f32 :=
  mulf (extf .f32 (truncf .fp8e4m3 (minimumf (broadcast S4096x2048 (Scalar.ofBits .f32 0x43E00000#32))
    (maximumf (broadcast S4096x2048 (Scalar.ofBits .f32 0xC3E00000#32)) (divf y (broadcast S4096x2048 (Scalar.divf g (Scalar.ofBits .f32 0x43E00000#32))))))
    bitsLt_fp8e4m3_f32) bitsLt_fp8e4m3_f32) (broadcast S4096x2048 (Scalar.divf g (Scalar.ofBits .f32 0x43E00000#32)))

theorem pay_eq (x : Vec F S4096x4096 .bf16) (w : Vec F S4096x2048 .bf16) : k0_pay1 x w = made (largest (product x w)) (product x w) := rfl

end Parts

theorem product_apply (x : Vec Ideal S4096x4096 .bf16) (w : Vec Ideal S4096x2048 .bf16) (I : Fin 4096) (J : Fin 2048) :
    product x w (ix2 I J) = KernelProof.entry x w I J := by
  unfold product
  rw [show dot_S4096x4096_S4096x2048_S4096x2048_1_0_0_1_n_n = DotDims.plain 4096 4096 2048 from rfl]
  refine (Ideal.matmul_plain_apply none x w _ I J).trans ?_
  rw [show (constant S4096x2048 .f32 0x00000000#32 : FVec Ideal S4096x2048 .f32) (ix2 I J) = (0 : EReal) from Ideal.ofBits_zero_f32, zero_add]
  rfl

theorem largest_is (x : Vec Ideal S4096x4096 .bf16) (w : Vec Ideal S4096x2048 .bf16) : KernelProof.Largest x w (largest (product x w)) := by
  intro b
  unfold largest
  refine (magnitude_le _ _ _ _ _ _ _ b).trans ⟨fun h I J => ?_, fun h i => ?_⟩
  · rw [← product_apply]
    exact h _
  · obtain ⟨I, J, rfl⟩ : ∃ (I : Fin 4096) (J : Fin 2048), i = ix2 I J := ⟨i 0, i 1, eq_ix2 i⟩
    rw [product_apply]
    exact h I J

theorem made_apply (g : EReal) (y : FVec Ideal S4096x2048 .f32) (i : S4096x2048.Idx) : made (F := Ideal) g y i = quantised g (y i) := by
  unfold made
  rfl

/-- The reference's result holds the quantised entries of the product. -/
theorem result_apply (x : Vec Ideal S4096x4096 .bf16) (w : Vec Ideal S4096x2048 .bf16) (I : Fin 4096) (J : Fin 2048) :
    k0_pay1 x w (ix2 I J) = quantised (largest (product x w)) (KernelProof.entry x w I J) := by
  rw [pay_eq, made_apply, product_apply]

end Cert.ReferenceProof

end
-- ==== Proof.Algebraic.lean ====
/- Over the extended reals the kernel computes the reference: each device's result is its block of columns of the reference's
   result, whatever the arguments hold. -/
module

public import proofs.«01_k».proof.Proof.Frames
public import proofs.«01_k».proof.Proof.Values
public import proofs.«01_k».proof.Proof.RefValues

@[expose] public section

noncomputable section

namespace Cert.Proof

open Cert.KernelProof Cert.Quant
open Idealize.ShloMosaic Idealize.ShloMosaic.ValueIdx Idealize.SL.Sem

local instance : Cert.KernelIdeal.Facts := Cert.KernelIdeal.Gen.facts
local instance : Cert.ReferenceIdeal.Facts := Cert.ReferenceIdeal.Gen.facts

/-- A device's block of an array cut by rows, and of one cut by columns, at a row and a column. -/
theorem rows_apply (v : (⟨2, ![4096, 4096]⟩ : Shape).Idx → EReal) (s : Fin 8) (i : Fin 512) (k : Fin 4096) :
    Layout.block ⟨2, ![512, 4096]⟩ ⟨2, ![4096, 4096]⟩ 0 8 s v (by decide) (ix2 i k) = v (ix2 (rowOf s i) k) :=
  congrArg v (Shape.idx_ext₂ (congrArg (· + i.val) (Nat.mul_comm s.val 512)) rfl)
theorem cols_apply (v : (⟨2, ![4096, 2048]⟩ : Shape).Idx → EReal) (c : Fin 8) (I : Fin 4096) (j : Fin 256) :
    Layout.block ⟨2, ![4096, 256]⟩ ⟨2, ![4096, 2048]⟩ 1 8 c v (by decide) (ix2 I j) = v (ix2 I (colOf c j)) :=
  congrArg v (Shape.idx_ext₂ rfl (congrArg (· + j.val) (Nat.mul_comm c.val 256)))

/-- From the devices' row blocks of `A` and their copies of `B`, each device ends with its columns of what the reference makes
    of `A` and `B`. -/
theorem out_is_block (A : Vec Ideal Cert.ReferenceIdeal.S4096x4096 .bf16) (B : Vec Ideal Cert.ReferenceIdeal.S4096x2048 .bf16)
    (X : Dev Cert.KernelIdeal.nD → Vec Ideal Cert.KernelIdeal.S512x4096 .bf16) (W : Dev Cert.KernelIdeal.nD → Vec Ideal Cert.KernelIdeal.S4096x2048 .bf16)
    (hX : ∀ s, X s = Layout.block ⟨2, ![512, 4096]⟩ ⟨2, ![4096, 4096]⟩ 0 8 s A (by decide)) (hW : ∀ s, W s = B) (c : Dev Cert.KernelIdeal.nD) :
    outBuf X W c = Layout.block ⟨2, ![4096, 256]⟩ ⟨2, ![4096, 2048]⟩ 1 8 c (Cert.ReferenceIdeal.Gen.k0_pay1 (F := Ideal) A B) (by decide) := by
  funext x
  obtain ⟨I, j, rfl⟩ : ∃ (I : Fin 4096) (j : Fin 256), x = ix2 I j := ⟨x 0, x 1, eq_ix2 x⟩
  obtain ⟨s, i, rfl⟩ := rowOf_all I
  rw [outBuf_apply X W A B (fun s i k => by rw [hX]; exact rows_apply A s i k) hW (ReferenceProof.largest_is A B), cols_apply,
    ReferenceProof.result_apply]

/-- The kernel's results are their parts of the reference's. -/
theorem algebraic : Cert.algebraic_KernelIdeal_ReferenceIdeal := by
  intro m ρ m' ρ' _ agree
  refine ⟨Cert.ReferenceIdeal.Gen.k0_pay1 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (Cert.KernelProof.run_main (F := Ideal) m ρ)
    exact out_is_block _ _ (X₀ m) (W₀ m) (fun s => (agree s).1) (fun s => (agree s).2) c
  · exact (θ_run Cert.ReferenceIdeal.defs _ _).mono (fun _ h => h 0) (Cert.ReferenceProof.run (F := Ideal) m' ρ')

end Cert.Proof

end
-- ==== Proof.lean ====
/- The certificate's claims, put together from the modules under proof/Proof/: both programs of the kernel and the
   reference run to an end, the kernel's two printed forms are the same program, and over the extended reals the kernel
   computes what the reference does. -/
module

public import proofs.«01_k».proof.Defs
public import proofs.«01_k».proof.Proof.Algebraic

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
